-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S8x4x1x128x1024 : Shape := ⟨5, ![8, 4, 1, 128, 1024]⟩
abbrev S8x4x1 : Shape := ⟨3, ![8, 4, 1]⟩
abbrev S128x128 : Shape := ⟨2, ![128, 128]⟩
abbrev S128x1024 : Shape := ⟨2, ![128, 1024]⟩
abbrev S1x1x1x128x1024 : Shape := ⟨5, ![1, 1, 1, 128, 1024]⟩
abbrev S_ : Shape := ⟨0, ![]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S128x2048, .f32⟩
  | .local _ .vmem, ⟨0, _⟩ => ⟨S2048x128, .bf16⟩
  | .local _ .vmem, ⟨1, _⟩ => ⟨S128x2048, .bf16⟩
  | .local _ .vmem, ⟨2, _⟩ => ⟨S128x2048, .f32⟩
  | .local _ .vmem, ⟨3, _⟩ => ⟨S2048x2048, .bf16⟩
  | .local _ .vmem, ⟨4, _⟩ => ⟨S8x4x1x128x1024, .bf16⟩
  | .local _ .vmem, ⟨5, _⟩ => ⟨S8x4x1x128x1024, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) (c8_i32_18 : BitVec 32) : Fin 2 → Nat :=
  let c4_i32_26 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v36 : BitVec 32 := Scalar.addi v13 c8_i32_18
  let c32_i32_19 : BitVec 32 := 32#32
  let v37 : BitVec 32 := Scalar.addi v36 c32_i32_19
  let c16_i32_20 : BitVec 32 := 16#32
  let v38 : BitVec 32 := Scalar.remsi v37 c16_i32_20
  let c4_i32_21 : BitVec 32 := 4#32
  let v39 : BitVec 32 := Scalar.divsi v38 c4_i32_21
  let c2_i32_23 : BitVec 32 := 2#32
  let v41 : BitVec 32 := Scalar.remsi v39 c2_i32_23
  let c1_i32_24 : BitVec 32 := 1#32
  let v42 : BitVec 1 := Scalar.cmpi .eq v41 c1_i32_24
  let c3_i32_25 : BitVec 32 := 3#32
  let c4_i32_22 : BitVec 32 := 4#32
  let v40 : BitVec 32 := Scalar.remsi v38 c4_i32_22
  let v43 : BitVec 32 := Scalar.subi c3_i32_25 v40
  let v44 : BitVec 32 := Scalar.select v42 v43 v40
  let v45 : BitVec 32 := Scalar.muli c4_i32_26 v44
  let v46 : BitVec 32 := Scalar.addi v45 v39
  let c128_i32 : BitVec 32 := 128#32
  let v47 : BitVec 32 := Scalar.muli v46 c128_i32
  let v48 : Index := Scalar.indexCast v47
  let c0 : Index := 0#32
  ![v48.toNat, 0]
def k0_dev1 (d0 : Dev nD) : Nat :=
  let c0_i32_75 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_74 : BitVec 32 := 1#32
  let v110 : BitVec 32 := Scalar.muli v35 c1_i32_74
  let v111 : BitVec 32 := Scalar.addi c0_i32_75 v110
  v111.toNat
def k0_dev2 (d0 : Dev nD) : Nat :=
  let c0_i32_78 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_77 : BitVec 32 := 1#32
  let v112 : BitVec 32 := Scalar.muli v24 c1_i32_77
  let v113 : BitVec 32 := Scalar.addi c0_i32_78 v112
  v113.toNat
def k0_dev3 (d0 : Dev nD) : Nat :=
  let c0_i32_93 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_92 : BitVec 32 := 1#32
  let v114 : BitVec 32 := Scalar.muli v24 c1_i32_92
  let v115 : BitVec 32 := Scalar.addi c0_i32_93 v114
  v115.toNat
def k0_dev4 (d0 : Dev nD) : Nat :=
  let c0_i32_111 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_110 : BitVec 32 := 1#32
  let v124 : BitVec 32 := Scalar.muli v35 c1_i32_110
  let v125 : BitVec 32 := Scalar.addi c0_i32_111 v124
  v125.toNat
def k0_dev5 (d0 : Dev nD) : Nat :=
  let c0_i32_129 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_128 : BitVec 32 := 1#32
  let v134 : BitVec 32 := Scalar.muli v24 c1_i32_128
  let v135 : BitVec 32 := Scalar.addi c0_i32_129 v134
  v135.toNat
def k0_dev6 (d0 : Dev nD) : Nat :=
  let c0_i32_147 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_146 : BitVec 32 := 1#32
  let v144 : BitVec 32 := Scalar.muli v35 c1_i32_146
  let v145 : BitVec 32 := Scalar.addi c0_i32_147 v144
  v145.toNat
def k0_off2 (d0 : Dev nD) (c7_i32_182 : BitVec 32) : Fin 2 → Nat :=
  let c4_i32_190 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v173 : BitVec 32 := Scalar.addi v13 c7_i32_182
  let c32_i32_183 : BitVec 32 := 32#32
  let v174 : BitVec 32 := Scalar.addi v173 c32_i32_183
  let c16_i32_184 : BitVec 32 := 16#32
  let v175 : BitVec 32 := Scalar.remsi v174 c16_i32_184
  let c4_i32_185 : BitVec 32 := 4#32
  let v176 : BitVec 32 := Scalar.divsi v175 c4_i32_185
  let c2_i32_187 : BitVec 32 := 2#32
  let v178 : BitVec 32 := Scalar.remsi v176 c2_i32_187
  let c1_i32_188 : BitVec 32 := 1#32
  let v179 : BitVec 1 := Scalar.cmpi .eq v178 c1_i32_188
  let c3_i32_189 : BitVec 32 := 3#32
  let c4_i32_186 : BitVec 32 := 4#32
  let v177 : BitVec 32 := Scalar.remsi v175 c4_i32_186
  let v180 : BitVec 32 := Scalar.subi c3_i32_189 v177
  let v181 : BitVec 32 := Scalar.select v179 v180 v177
  let v182 : BitVec 32 := Scalar.muli c4_i32_190 v181
  let v183 : BitVec 32 := Scalar.addi v182 v176
  let c128_i32_191 : BitVec 32 := 128#32
  let v184 : BitVec 32 := Scalar.muli v183 c128_i32_191
  let v185 : Index := Scalar.indexCast v184
  let c0_192 : Index := 0#32
  ![v185.toNat, 0]
def k0_off2_at (r : Fin 13) : BitVec 32 :=
  if r.val < 6 then
    if r.val < 3 then
      if r.val < 1 then
        7#32
      else
        if r.val < 2 then
          10#32
        else
          6#32
    else
      if r.val < 4 then
        11#32
      else
        if r.val < 5 then
          5#32
        else
          12#32
  else
    if r.val < 9 then
      if r.val < 7 then
        4#32
      else
        if r.val < 8 then
          13#32
        else
          3#32
    else
      if r.val < 11 then
        if r.val < 10 then
          14#32
        else
          2#32
      else
        if r.val < 12 then
          15#32
        else
          1#32
def k0_dev7 (d0 : Dev nD) : Nat :=
  let c0_i32_211 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_210 : BitVec 32 := 1#32
  let v191 : BitVec 32 := Scalar.muli v24 c1_i32_210
  let v192 : BitVec 32 := Scalar.addi c0_i32_211 v191
  v192.toNat
def k0_off3 (d0 : Dev nD) (c9_i32_239 : BitVec 32) : Fin 2 → Nat :=
  let c4_i32_247 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let v211 : BitVec 32 := Scalar.addi v13 c9_i32_239
  let c32_i32_240 : BitVec 32 := 32#32
  let v212 : BitVec 32 := Scalar.addi v211 c32_i32_240
  let c16_i32_241 : BitVec 32 := 16#32
  let v213 : BitVec 32 := Scalar.remsi v212 c16_i32_241
  let c4_i32_242 : BitVec 32 := 4#32
  let v214 : BitVec 32 := Scalar.divsi v213 c4_i32_242
  let c2_i32_244 : BitVec 32 := 2#32
  let v216 : BitVec 32 := Scalar.remsi v214 c2_i32_244
  let c1_i32_245 : BitVec 32 := 1#32
  let v217 : BitVec 1 := Scalar.cmpi .eq v216 c1_i32_245
  let c3_i32_246 : BitVec 32 := 3#32
  let c4_i32_243 : BitVec 32 := 4#32
  let v215 : BitVec 32 := Scalar.remsi v213 c4_i32_243
  let v218 : BitVec 32 := Scalar.subi c3_i32_246 v215
  let v219 : BitVec 32 := Scalar.select v217 v218 v215
  let v220 : BitVec 32 := Scalar.muli c4_i32_247 v219
  let v221 : BitVec 32 := Scalar.addi v220 v214
  let c128_i32_248 : BitVec 32 := 128#32
  let v222 : BitVec 32 := Scalar.muli v221 c128_i32_248
  let v223 : Index := Scalar.indexCast v222
  let c1024 : Index := 1024#32
  ![v223.toNat, 1024]
def k0_off3_at (r : Fin 13) : BitVec 32 :=
  if r.val < 6 then
    if r.val < 3 then
      if r.val < 1 then
        9#32
      else
        if r.val < 2 then
          6#32
        else
          10#32
    else
      if r.val < 4 then
        5#32
      else
        if r.val < 5 then
          11#32
        else
          4#32
  else
    if r.val < 9 then
      if r.val < 7 then
        12#32
      else
        if r.val < 8 then
          3#32
        else
          13#32
    else
      if r.val < 11 then
        if r.val < 10 then
          2#32
        else
          14#32
      else
        if r.val < 12 then
          1#32
        else
          15#32
def k0_dev8 (d0 : Dev nD) : Nat :=
  let c0_i32_267 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_266 : BitVec 32 := 1#32
  let v229 : BitVec 32 := Scalar.muli v35 c1_i32_266
  let v230 : BitVec 32 := Scalar.addi c0_i32_267 v229
  v230.toNat
def k0_dev9 (d0 : Dev nD) : Nat :=
  let c0_i32_323 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_322 : BitVec 32 := 1#32
  let v267 : BitVec 32 := Scalar.muli v24 c1_i32_322
  let v268 : BitVec 32 := Scalar.addi c0_i32_323 v267
  v268.toNat
def k0_dev10 (d0 : Dev nD) : Nat :=
  let c0_i32_379 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_378 : BitVec 32 := 1#32
  let v305 : BitVec 32 := Scalar.muli v35 c1_i32_378
  let v306 : BitVec 32 := Scalar.addi c0_i32_379 v305
  v306.toNat
def k0_dev11 (d0 : Dev nD) : Nat :=
  let c0_i32_436 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_435 : BitVec 32 := 1#32
  let v343 : BitVec 32 := Scalar.muli v24 c1_i32_435
  let v344 : BitVec 32 := Scalar.addi c0_i32_436 v343
  v344.toNat
def k0_dev12 (d0 : Dev nD) : Nat :=
  let c0_i32_493 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_492 : BitVec 32 := 1#32
  let v381 : BitVec 32 := Scalar.muli v35 c1_i32_492
  let v382 : BitVec 32 := Scalar.addi c0_i32_493 v381
  v382.toNat
def k0_dev13 (d0 : Dev nD) : Nat :=
  let c0_i32_549 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_548 : BitVec 32 := 1#32
  let v419 : BitVec 32 := Scalar.muli v24 c1_i32_548
  let v420 : BitVec 32 := Scalar.addi c0_i32_549 v419
  v420.toNat
def k0_dev14 (d0 : Dev nD) : Nat :=
  let c0_i32_605 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_604 : BitVec 32 := 1#32
  let v457 : BitVec 32 := Scalar.muli v35 c1_i32_604
  let v458 : BitVec 32 := Scalar.addi c0_i32_605 v457
  v458.toNat
def k0_dev15 (d0 : Dev nD) : Nat :=
  let c0_i32_662 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_661 : BitVec 32 := 1#32
  let v495 : BitVec 32 := Scalar.muli v24 c1_i32_661
  let v496 : BitVec 32 := Scalar.addi c0_i32_662 v495
  v496.toNat
def k0_dev16 (d0 : Dev nD) : Nat :=
  let c0_i32_719 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_718 : BitVec 32 := 1#32
  let v533 : BitVec 32 := Scalar.muli v35 c1_i32_718
  let v534 : BitVec 32 := Scalar.addi c0_i32_719 v533
  v534.toNat
def k0_dev17 (d0 : Dev nD) : Nat :=
  let c0_i32_776 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_775 : BitVec 32 := 1#32
  let v571 : BitVec 32 := Scalar.muli v24 c1_i32_775
  let v572 : BitVec 32 := Scalar.addi c0_i32_776 v571
  v572.toNat
def k0_dev18 (d0 : Dev nD) : Nat :=
  let c0_i32_832 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_831 : BitVec 32 := 1#32
  let v609 : BitVec 32 := Scalar.muli v35 c1_i32_831
  let v610 : BitVec 32 := Scalar.addi c0_i32_832 v609
  v610.toNat
def k0_dev19 (d0 : Dev nD) : Nat :=
  let c0_i32_888 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_887 : BitVec 32 := 1#32
  let v647 : BitVec 32 := Scalar.muli v24 c1_i32_887
  let v648 : BitVec 32 := Scalar.addi c0_i32_888 v647
  v648.toNat
def k0_dev20 (d0 : Dev nD) : Nat :=
  let c0_i32_945 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_944 : BitVec 32 := 1#32
  let v685 : BitVec 32 := Scalar.muli v35 c1_i32_944
  let v686 : BitVec 32 := Scalar.addi c0_i32_945 v685
  v686.toNat
def k0_dev21 (d0 : Dev nD) : Nat :=
  let c0_i32_1002 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1001 : BitVec 32 := 1#32
  let v723 : BitVec 32 := Scalar.muli v24 c1_i32_1001
  let v724 : BitVec 32 := Scalar.addi c0_i32_1002 v723
  v724.toNat
def k0_dev22 (d0 : Dev nD) : Nat :=
  let c0_i32_1058 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1057 : BitVec 32 := 1#32
  let v761 : BitVec 32 := Scalar.muli v35 c1_i32_1057
  let v762 : BitVec 32 := Scalar.addi c0_i32_1058 v761
  v762.toNat
def k0_dev23 (d0 : Dev nD) : Nat :=
  let c0_i32_1114 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1113 : BitVec 32 := 1#32
  let v799 : BitVec 32 := Scalar.muli v24 c1_i32_1113
  let v800 : BitVec 32 := Scalar.addi c0_i32_1114 v799
  v800.toNat
def k0_dev24 (d0 : Dev nD) : Nat :=
  let c0_i32_1171 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1170 : BitVec 32 := 1#32
  let v837 : BitVec 32 := Scalar.muli v35 c1_i32_1170
  let v838 : BitVec 32 := Scalar.addi c0_i32_1171 v837
  v838.toNat
def k0_dev25 (d0 : Dev nD) : Nat :=
  let c0_i32_1228 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1227 : BitVec 32 := 1#32
  let v875 : BitVec 32 := Scalar.muli v24 c1_i32_1227
  let v876 : BitVec 32 := Scalar.addi c0_i32_1228 v875
  v876.toNat
def k0_dev26 (d0 : Dev nD) : Nat :=
  let c0_i32_1284 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1283 : BitVec 32 := 1#32
  let v913 : BitVec 32 := Scalar.muli v35 c1_i32_1283
  let v914 : BitVec 32 := Scalar.addi c0_i32_1284 v913
  v914.toNat
def k0_dev27 (d0 : Dev nD) : Nat :=
  let c0_i32_1340 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1339 : BitVec 32 := 1#32
  let v951 : BitVec 32 := Scalar.muli v24 c1_i32_1339
  let v952 : BitVec 32 := Scalar.addi c0_i32_1340 v951
  v952.toNat
def k0_dev28 (d0 : Dev nD) : Nat :=
  let c0_i32_1397 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1396 : BitVec 32 := 1#32
  let v989 : BitVec 32 := Scalar.muli v35 c1_i32_1396
  let v990 : BitVec 32 := Scalar.addi c0_i32_1397 v989
  v990.toNat
def k0_dev29 (d0 : Dev nD) : Nat :=
  let c0_i32_1454 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1453 : BitVec 32 := 1#32
  let v1027 : BitVec 32 := Scalar.muli v24 c1_i32_1453
  let v1028 : BitVec 32 := Scalar.addi c0_i32_1454 v1027
  v1028.toNat
def k0_dev30 (d0 : Dev nD) : Nat :=
  let c0_i32_1511 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1510 : BitVec 32 := 1#32
  let v1065 : BitVec 32 := Scalar.muli v35 c1_i32_1510
  let v1066 : BitVec 32 := Scalar.addi c0_i32_1511 v1065
  v1066.toNat
def k0_dev31 (d0 : Dev nD) : Nat :=
  let c0_i32_1567 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_2 : BitVec 32 := 1#32
  let v14 : BitVec 32 := Scalar.addi v13 c1_i32_2
  let c32_i32 : BitVec 32 := 32#32
  let v15 : BitVec 32 := Scalar.addi v14 c32_i32
  let c16_i32_3 : BitVec 32 := 16#32
  let v16 : BitVec 32 := Scalar.remsi v15 c16_i32_3
  let c4_i32_4 : BitVec 32 := 4#32
  let v17 : BitVec 32 := Scalar.divsi v16 c4_i32_4
  let c2_i32_6 : BitVec 32 := 2#32
  let v19 : BitVec 32 := Scalar.remsi v17 c2_i32_6
  let c1_i32_7 : BitVec 32 := 1#32
  let v20 : BitVec 1 := Scalar.cmpi .eq v19 c1_i32_7
  let c3_i32 : BitVec 32 := 3#32
  let c4_i32_5 : BitVec 32 := 4#32
  let v18 : BitVec 32 := Scalar.remsi v16 c4_i32_5
  let v21 : BitVec 32 := Scalar.subi c3_i32 v18
  let v22 : BitVec 32 := Scalar.select v20 v21 v18
  let v23 : BitVec 32 := Scalar.muli c4_i32_8 v22
  let v24 : BitVec 32 := Scalar.addi v23 v17
  let c1_i32_1566 : BitVec 32 := 1#32
  let v1103 : BitVec 32 := Scalar.muli v24 c1_i32_1566
  let v1104 : BitVec 32 := Scalar.addi c0_i32_1567 v1103
  v1104.toNat
def k0_dev32 (d0 : Dev nD) : Nat :=
  let c0_i32_1624 : BitVec 32 := 0#32
  let c4_i32_17 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c4_i32_0 : BitVec 32 := 4#32
  let v4 : BitVec 32 := Scalar.divsi v2 c4_i32_0
  let c1_i32_1 : BitVec 32 := 1#32
  let v6 : BitVec 1 := Scalar.cmpi .eq v3 c1_i32_1
  let c7_i32 : BitVec 32 := 7#32
  let v7 : BitVec 32 := Scalar.subi c7_i32 v4
  let c2_i32 : BitVec 32 := 2#32
  let v8 : BitVec 1 := Scalar.cmpi .eq v3 c2_i32
  let c8_i32 : BitVec 32 := 8#32
  let v9 : BitVec 32 := Scalar.addi c8_i32 v4
  let c15_i32 : BitVec 32 := 15#32
  let v10 : BitVec 32 := Scalar.subi c15_i32 v4
  let v11 : BitVec 32 := Scalar.select v8 v9 v10
  let v12 : BitVec 32 := Scalar.select v6 v7 v11
  let v13 : BitVec 32 := Scalar.select v5 v4 v12
  let c1_i32_9 : BitVec 32 := 1#32
  let v25 : BitVec 32 := Scalar.subi v13 c1_i32_9
  let c32_i32_10 : BitVec 32 := 32#32
  let v26 : BitVec 32 := Scalar.addi v25 c32_i32_10
  let c16_i32_11 : BitVec 32 := 16#32
  let v27 : BitVec 32 := Scalar.remsi v26 c16_i32_11
  let c4_i32_12 : BitVec 32 := 4#32
  let v28 : BitVec 32 := Scalar.divsi v27 c4_i32_12
  let c2_i32_14 : BitVec 32 := 2#32
  let v30 : BitVec 32 := Scalar.remsi v28 c2_i32_14
  let c1_i32_15 : BitVec 32 := 1#32
  let v31 : BitVec 1 := Scalar.cmpi .eq v30 c1_i32_15
  let c3_i32_16 : BitVec 32 := 3#32
  let c4_i32_13 : BitVec 32 := 4#32
  let v29 : BitVec 32 := Scalar.remsi v27 c4_i32_13
  let v32 : BitVec 32 := Scalar.subi c3_i32_16 v29
  let v33 : BitVec 32 := Scalar.select v31 v32 v29
  let v34 : BitVec 32 := Scalar.muli c4_i32_17 v33
  let v35 : BitVec 32 := Scalar.addi v34 v28
  let c1_i32_1623 : BitVec 32 := 1#32
  let v1141 : BitVec 32 := Scalar.muli v35 c1_i32_1623
  let v1142 : BitVec 32 := Scalar.addi c0_i32_1624 v1141
  v1142.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1675 : BitVec 32 := 128#32
  let v1174 : BitVec 32 := Scalar.muli v2 c128_i32_1675
  let v1175 : Index := Scalar.indexCast v1174
  let c0_1676 : Index := 0#32
  ![v1175.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1729 : BitVec 32 := 128#32
  let v1216 : BitVec 32 := Scalar.muli v2 c128_i32_1729
  let v1217 : Index := Scalar.indexCast v1216
  let c1024_1730 : Index := 1024#32
  ![v1217.toNat, 1024]
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Flat.lean ====
/-
The kernel's body written as loops over its hops.

The printed body is one long straight line of operations: every hop of the four chunk streams is printed out with its own
slice numbers. Here the same operations are written once, for a slot `(s, t)` (step `s` of stream `t`), and the body is the
prologue, a loop over the list of hops in program order, the epilogue and a loop over the list of send waits. `body_eq_flat`
says that the printed body is this program: the two unfold to the same sequence of operations.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.SL.Sem
open Idealize.ShloMosaic.TcCoe

variable {F : FTy → Type} [FloatOps F]

/-! ## The memrefs, the slots of the two landing arrays and their semaphores -/

/-- The staging buffers of `x`, `w` and the result; the partial products; the send and the receive slots. -/
abbrev xM : Memref sig .tc .vmem S2048x128 .bf16 := Memref.whole cc0_stg0_0
abbrev wM : Memref sig .tc .vmem S128x2048 .bf16 := Memref.whole cc0_stg1_0
abbrev oM : Memref sig .tc .vmem S128x2048 .f32 := Memref.whole cc0_stg2_0
abbrev pM : Memref sig .tc .vmem S2048x2048 .bf16 := Memref.whole cc0_scratch0
abbrev sM : Memref sig .tc .vmem S8x4x1x128x1024 .bf16 := Memref.whole cc0_scratch1
abbrev vM : Memref sig .tc .vmem S8x4x1x128x1024 .bf16 := Memref.whole cc0_scratch2

/-- Slot `(s, t)` starts at `[s, t, 0, 0, 0]` and lies inside the array of slots. -/
theorem slot_inb (s : Fin 8) (t : Fin 4) :
    ∀ a, (![s.val, t.val, 0, 0, 0] : Fin 5 → Nat) a + S1x1x1x128x1024.size a ≤ S8x4x1x128x1024.size a := by
  revert s t; decide

/-- The rectangle of slot `(s, t)`. -/
abbrev slotR (s : Fin 8) (t : Fin 4) : Rect S8x4x1x128x1024 :=
  Rect.unit (s := S8x4x1x128x1024) ![s.val, t.val, 0, 0, 0] S1x1x1x128x1024.size (slot_inb s t)

theorem slot_words (s : Fin 8) (t : Fin 4) : (slotR s t).WholeWords (EltTy.packing .bf16) := by revert s t; decide
theorem slot_packed (s : Fin 8) (t : Fin 4) : (slotR s t).PackedRows (EltTy.packing .bf16) := by revert s t; decide

/-- Slot `(s, t)` of an array of slots, as a matrix: what the copies move. -/
abbrev slotM (M : Memref sig .tc .vmem S8x4x1x128x1024 .bf16) (s : Fin 8) (t : Fin 4) : Memref sig .tc .vmem S128x1024 .bf16 :=
  (M.slice (slotR s t) (fun _ => rfl)).squeeze S128x1024 squeezes_S1x1x1x128x1024_S128x1024

theorem slotM_exact (M : Memref sig .tc .vmem S8x4x1x128x1024 .bf16) (hM : M.IsWhole) (s : Fin 8) (t : Fin 4) :
    (slotM M s t).view.WordExact := (hM.wordExact_slice rfl _ (slot_words s t)).reshape _ _

theorem slotS_inb (s : Fin 8) (t : Fin 4) : ∀ a, (![s.val, t.val, 0] : Fin 3 → Nat) a + S1x1x1.size a ≤ S8x4x1.size a := by
  revert s t; decide

/-- Semaphore `(s, t)` of an array of semaphores. -/
abbrev semAt (A : DmaSems sig S8x4x1) (s : Fin 8) (t : Fin 4) : DmaSem sig :=
  ((A.slice (Rect.unit (s := S8x4x1) ![s.val, t.val, 0] S1x1x1.size (slotS_inb s t))).squeeze S_ squeezes_S1x1x1_S_).sem

/-- The semaphores that step `s` of stream `t` completes on: the sender's and the receiver's. -/
abbrev sendQ (s : Fin 8) (t : Fin 4) : DmaSem sig := semAt cc0_scratch3 s t
abbrev recvQ (s : Fin 8) (t : Fin 4) : DmaSem sig := semAt cc0_scratch4 s t

/-! ## The hops -/

/-- The device that stream `t` moves to from `d`: streams 0 and 1 go to the right neighbour, 2 and 3 to the left. -/
def dstD (t : Fin 4) (d : Dev nD) : Dev nD :=
  if t.val < 2 then ⟨k0_dev3 d, k0_dev3_lt d⟩ else ⟨k0_dev4 d, k0_dev4_lt d⟩

/-- Where, in the partial products of device `d`, the block starts that `d` adds to what it received at step `p` of
    stream `t`. -/
def hopOff (d : Dev nD) (p : Fin 7) (t : Fin 4) : Fin 2 → Nat :=
  if t.val = 0 then k0_off2 d (BitVec.ofNat 32 (7 - p.val))
  else if t.val = 1 then k0_off3 d (BitVec.ofNat 32 (6 - p.val))
  else if t.val = 2 then k0_off3 d (BitVec.ofNat 32 (9 + p.val))
  else k0_off2 d (BitVec.ofNat 32 (10 + p.val))

theorem hopOff_inb (d : Dev nD) (p : Fin 7) (t : Fin 4) : ∀ a, hopOff d p t a + S128x1024.size a ≤ S2048x2048.size a := by
  revert d p t; decide +kernel

/-- What is sent on: what was received plus the device's own block, as bf16. -/
def addStep (v : Vec F S1x1x1x128x1024 .bf16) (ch : Vec F S128x1024 .bf16) : FVec F S1x1x1x128x1024 .bf16 :=
  shapeCast S1x1x1x128x1024 (addf (shapeCast S128x1024 v shapeCasts_S1x1x1x128x1024_S128x1024) ch) shapeCasts_S128x1024_S1x1x1x128x1024

/-- The programs this file is about: those of one TensorCore. -/
abbrev P (F : FTy → Type) [FloatOps F] (α : Type) := Prog (TpuEff nD τ sig (Elt F) Λ₀ .tc) α

/-- Start the copy of send slot `(s, t)` to receive slot `(s, t)` of the stream's next device. -/
abbrev startOp (d : Dev nD) (s : Fin 8) (t : Fin 4) (k : PUnit → P F PUnit) : P F PUnit :=
  .op (.enqueueDma (slotM sM s t) (.remote (Dev.tc (dstD t d)) (slotM vM s t) (.dma (sendQ s t))) (.dma (recvQ s t))
    (slotM_exact sM (Memref.isWhole_whole _) s t) (slotM_exact vM (Memref.isWhole_whole _) s t) ⟨⟨rfl, Or.inl rfl⟩, trivial⟩) k

/-- Wait for the arrival in receive slot `(s, t)`. -/
abbrev waitRecvOp (s : Fin 8) (t : Fin 4) (k : PUnit → P F PUnit) : P F PUnit :=
  .op (.waitDma2 (recvQ s t) (slotM sM s t) (slotM vM s t) (slotM_exact sM (Memref.isWhole_whole _) s t)
    (slotM_exact vM (Memref.isWhole_whole _) s t)) k

/-- Wait for send slot `(s, t)` to have been read. -/
abbrev waitSendOp (s : Fin 8) (t : Fin 4) (k : PUnit → P F PUnit) : P F PUnit :=
  .op (.waitDma2 (sendQ s t) (slotM vM s t) (slotM sM s t) (slotM_exact vM (Memref.isWhole_whole _) s t)
    (slotM_exact sM (Memref.isWhole_whole _) s t)) k

/-- Read slot `(s, t)` of an array of slots. -/
abbrev loadSlotOp (M : Memref sig .tc .vmem S8x4x1x128x1024 .bf16) (s : Fin 8) (t : Fin 4)
    (k : Vec F S1x1x1x128x1024 .bf16 → P F PUnit) : P F PUnit :=
  .op (.load M (slotR s t).toLoadRect (View.loadsAt_vmem h_S1x1x1x128x1024)) k

/-- Write slot `(s, t)` of the send array. -/
abbrev storeSlotOp (s : Fin 8) (t : Fin 4) (v : Vec F S1x1x1x128x1024 .bf16) (k : PUnit → P F PUnit) : P F PUnit :=
  .op (.store sM (slotR s t) v Finset.univ
    (View.stores_vmem h_S1x1x1x128x1024 ((Memref.isWhole_whole _).storeExact_slice rfl _ (slot_packed s t)) (fun _ => rfl)) (.inl rfl)) k

/-- Read the 128 × 1024 block of the partial products that starts at `off`. -/
abbrev loadPartOp (off : Fin 2 → Nat) (h : ∀ a, off a + S128x1024.size a ≤ S2048x2048.size a)
    (k : Vec F S128x1024 .bf16 → P F PUnit) : P F PUnit :=
  .op (.load pM (Rect.unit (s := S2048x2048) off S128x1024.size h).toLoadRect (View.loadsAt_vmem h_S128x1024)) k

/-- One forwarding hop: step `p` of stream `t` arrives, the device's own block is added, step `p + 1` starts. -/
def hopP (d : Dev nD) (p : Fin 7) (t : Fin 4) (k : P F PUnit) : P F PUnit :=
  waitRecvOp p.castSucc t fun _ => loadSlotOp vM p.castSucc t fun v => loadPartOp (hopOff d p t) (hopOff_inb d p t) fun ch =>
  loadSlotOp sM p.succ t fun _ => storeSlotOp p.succ t (addStep v ch) fun _ => startOp d p.succ t fun _ => k

/-- The forwarding hops in program order. -/
def hopsP (d : Dev nD) : List (Fin 7 × Fin 4) → P F PUnit → P F PUnit
  | [], k => k
  | h :: l, k => hopP d h.1 h.2 (hopsP d l k)

/-- The send waits in program order. -/
def waitsP : List (Fin 8 × Fin 4) → P F PUnit
  | [] => .ret ⟨⟩
  | h :: l => waitSendOp h.1 h.2 fun _ => waitsP l

/-- The forwarding hops: six rounds of all four streams, then one more of the two that have eight hops. -/
def hops : List (Fin 7 × Fin 4) :=
  [(0, 0), (0, 2), (0, 1), (0, 3), (1, 0), (1, 2), (1, 1), (1, 3), (2, 0), (2, 2), (2, 1), (2, 3), (3, 0), (3, 2), (3, 1), (3, 3),
   (4, 0), (4, 2), (4, 1), (4, 3), (5, 0), (5, 2), (5, 1), (5, 3), (6, 0), (6, 2)]

/-- The send waits: the eight steps of stream 0, the seven of stream 1, the eight of stream 2, the seven of stream 3. -/
def sends : List (Fin 8 × Fin 4) :=
  [(0, 0), (1, 0), (2, 0), (3, 0), (4, 0), (5, 0), (6, 0), (7, 0), (0, 1), (1, 1), (2, 1), (3, 1), (4, 1), (5, 1), (6, 1),
   (0, 2), (1, 2), (2, 2), (3, 2), (4, 2), (5, 2), (6, 2), (7, 2), (0, 3), (1, 3), (2, 3), (3, 3), (4, 3), (5, 3), (6, 3)]

/-! ## The body -/

/-- Read the 128 rows of `x` that start at `off`. -/
abbrev loadXOp (off : Fin 2 → Nat) (h : ∀ a, off a + S128x128.size a ≤ S2048x128.size a)
    (k : Vec F S128x128 .bf16 → P F PUnit) : P F PUnit :=
  .op (.load xM (Rect.unit (s := S2048x128) off S128x128.size h).toLoadRect (View.loadsAt_vmem h_S128x128)) k

/-- Read `w`. -/
abbrev loadWOp (k : Vec F S128x2048 .bf16 → P F PUnit) : P F PUnit :=
  .op (.load wM (Rect.unit (s := S128x2048) ![0, 0] S128x2048.size inb_S128x2048_S128x2048_0_0).toLoadRect (View.loadsAt_vmem h_S128x2048)) k

/-- The bf16 product of 128 rows with `w`. -/
def rowProd (a : Vec F S128x128 .bf16) (b : Vec F S128x2048 .bf16) : FVec F S128x2048 .bf16 := k0_pay1 a b

/-- The left and the right half of such a product, as a slot's contents. -/
def leftHalf (v : FVec F S128x2048 .bf16) : FVec F S1x1x1x128x1024 .bf16 := k0_pay4 v
def rightHalf (v : FVec F S128x2048 .bf16) : FVec F S1x1x1x128x1024 .bf16 := k0_pay7 v

/-- The last part: wait for the last arrivals, apply the epilogue to each half, wait for the sends. -/
def lastP (d : Dev nD) : P F PUnit :=
  waitRecvOp 7 0 fun _ => waitRecvOp 6 3 fun _ =>
  loadSlotOp vM 7 0 fun a => loadSlotOp vM 6 3 fun b => loadPartOp (k0_off4 d) (k0_off4_inb d) fun ch =>
  .op (.load oM (Rect.unit (s := S128x2048) ![0, 0] S128x1024.size inb_S128x2048_S128x1024_0_0).toLoadRect (View.loadsAt_vmem h_S128x1024)) fun _ =>
  .op (.store oM (Rect.unit (s := S128x2048) ![0, 0] S128x1024.size inb_S128x2048_S128x1024_0_0) (k0_pay50 a b ch) Finset.univ
    (View.stores_vmem_bits_univ h_S128x1024 rfl) (.inl rfl)) fun _ =>
  waitRecvOp 6 1 fun _ => waitRecvOp 7 2 fun _ =>
  loadSlotOp vM 6 1 fun a => loadSlotOp vM 7 2 fun b => loadPartOp (k0_off5 d) (k0_off5_inb d) fun ch =>
  .op (.load oM (Rect.unit (s := S128x2048) ![0, 1024] S128x1024.size inb_S128x2048_S128x1024_0_1024).toLoadRect (View.loadsAt_vmem h_S128x1024)) fun _ =>
  .op (.store oM (Rect.unit (s := S128x2048) ![0, 1024] S128x1024.size inb_S128x2048_S128x1024_0_1024) (k0_pay50 a b ch) Finset.univ
    (View.stores_vmem_bits_univ h_S128x1024 rfl) (.inl rfl)) fun _ =>
  waitsP sends

/-- The middle part: the device's own partial products, then the hops. -/
def midP (d : Dev nD) : P F PUnit :=
  .op (.load xM (Rect.unit (s := S2048x128) ![0, 0] S2048x128.size inb_S2048x128_S2048x128_0_0).toLoadRect (View.loadsAt_vmem h_S2048x128)) fun a =>
  loadWOp fun b =>
  .op (.load pM (Rect.unit (s := S2048x2048) ![0, 0] S2048x2048.size inb_S2048x2048_S2048x2048_0_0).toLoadRect (View.loadsAt_vmem h_S2048x2048)) fun _ =>
  .op (.store pM (Rect.unit (s := S2048x2048) ![0, 0] S2048x2048.size inb_S2048x2048_S2048x2048_0_0) (k0_pay9 a b) Finset.univ
    (View.stores_vmem h_S2048x2048 ((Memref.isWhole_whole _).storeExact_slice rfl _ packedbf16_S2048x2048_S2048x2048_0_0) (fun _ => rfl)) (.inl rfl)) fun _ =>
  hopsP d hops (lastP d)

/-- The first part: the three products to send first, the handshake with both neighbours, the four first copies. -/
def firstP (d : Dev nD) : P F PUnit :=
  loadXOp (k0_off1 d 8#32) (k0_off1_inb d 1) fun a8 => loadWOp fun b8 =>
  loadXOp (k0_off1 d 7#32) (k0_off1_inb d 0) fun a7 => loadWOp fun b7 =>
  loadXOp (k0_off1 d 9#32) (k0_off1_inb d 2) fun a9 => loadWOp fun b9 =>
  loadSlotOp sM 0 0 fun _ => storeSlotOp 0 0 (leftHalf (rowProd a8 b8)) fun _ =>
  loadSlotOp sM 0 2 fun _ => storeSlotOp 0 2 (rightHalf (rowProd a8 b8)) fun _ =>
  loadSlotOp sM 0 1 fun _ => storeSlotOp 0 1 (rightHalf (rowProd a7 b7)) fun _ =>
  loadSlotOp sM 0 3 fun _ => storeSlotOp 0 3 (leftHalf (rowProd a9 b9)) fun _ =>
  .op (.semSignal (Dev.tc (⟨k0_dev1 d, k0_dev1_lt d⟩ : Dev nD)) barrier0 (1 : Int)) fun _ =>
  .op (.semSignal (Dev.tc (⟨k0_dev2 d, k0_dev2_lt d⟩ : Dev nD)) barrier0 (1 : Int)) fun _ =>
  .op (.semWait barrier0 (2 : Int)) fun _ =>
  startOp d 0 0 fun _ => startOp d 0 2 fun _ => startOp d 0 1 fun _ => startOp d 0 3 fun _ => midP d

/-- The whole body. -/
def flat : P F PUnit := .op .deviceId fun d => firstP d

set_option maxRecDepth 65536 in
set_option maxHeartbeats 4000000 in
/-- The printed body is `flat`. -/
theorem body_eq_flat : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) cc0_scratch3 cc0_scratch4 = flat := rfl

end Cert.RingProof

end
-- ==== Proof.Cells.lean ====
/-
The ring, the cells of its semaphores, the contents of the slots and the schedule of what each semaphore hands over.

Sixteen devices stand on a ring; streams 0 and 1 of partial sums run to the right, streams 2 and 3 to the left. Every device has a
barrier semaphore and, for each of the 32 slots `(s, t)` (step `s` of stream `t`), a send and a receive semaphore. `sndV m s t c` is
what device `c` sends at step `s` of stream `t`, written as a recursion on `s`. The schedule `ringRd` says what a unit of each
semaphore hands to the device that waits for it.
-/
module

public import proofs.«01_k».proof.Proof.Flat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The neighbour in the direction of streams 0 and 1, and the other one. -/
def rgt (d : Dev nD) : Dev nD := ⟨k0_dev3 d, k0_dev3_lt d⟩
def lft (d : Dev nD) : Dev nD := ⟨k0_dev4 d, k0_dev4_lt d⟩

theorem lft_rgt (d : Dev nD) : lft (rgt d) = d := by revert d; decide +kernel
theorem rgt_lft (d : Dev nD) : rgt (lft d) = d := by revert d; decide +kernel

/-- One step to the right, as a permutation of the devices. -/
def ring : Dev nD ≃ Dev nD := ⟨rgt, lft, lft_rgt, rgt_lft⟩

/-- The first signal goes to the left neighbour, the second to the right one. -/
theorem dev1_eq (d : Dev nD) : (⟨k0_dev1 d, k0_dev1_lt d⟩ : Dev nD) = lft d := rfl
theorem dev2_eq (d : Dev nD) : (⟨k0_dev2 d, k0_dev2_lt d⟩ : Dev nD) = rgt d := rfl

theorem dstD_eq (t : Fin 4) (d : Dev nD) : dstD t d = if t.val < 2 then rgt d else lft d := rfl

/-- The device that stream `t` comes to `d` from. -/
def srcD (t : Fin 4) (d : Dev nD) : Dev nD := if t.val < 2 then lft d else rgt d

theorem srcD_dstD (t : Fin 4) (d : Dev nD) : srcD t (dstD t d) = d := by
  rw [dstD_eq]; unfold srcD; split
  · exact lft_rgt d
  · exact rgt_lft d
theorem dstD_srcD (t : Fin 4) (d : Dev nD) : dstD t (srcD t d) = d := by
  rw [dstD_eq]; unfold srcD; split
  · exact rgt_lft d
  · exact lft_rgt d

/-- One step along stream `t`, as a permutation of the devices. -/
def along (t : Fin 4) : Dev nD ≃ Dev nD := ⟨dstD t, srcD t, srcD_dstD t, dstD_srcD t⟩

/-! ## The cells -/

/-- The slots. -/
abbrev Slot : Type := Fin 8 × Fin 4

/-- The slots that are used: streams 0 and 2 have eight steps, streams 1 and 3 seven. -/
abbrev Used (h : Slot) : Prop := h.1.val < 7 ∨ h.2.val % 2 = 0

theorem sendQ_val (s : Fin 8) (t : Fin 4) : (sendQ s t).val = 3 + (4 * s.val + t.val) := by revert s t; decide
theorem recvQ_val (s : Fin 8) (t : Fin 4) : (recvQ s t).val = 35 + (4 * s.val + t.val) := by revert s t; decide

abbrev barC (c : Dev nD) : GSem nD τ sig := ((c : Thread nD τ), .reg barrier0)
abbrev sndC (c : Dev nD) (h : Slot) : GSem nD τ sig := ((c : Thread nD τ), .dma (sendQ h.1 h.2))
abbrev rcvC (c : Dev nD) (h : Slot) : GSem nD τ sig := ((c : Thread nD τ), .dma (recvQ h.1 h.2))

/-- The slot with number `n`. -/
def slotOf (n : ℕ) : Slot := (Fin.ofNat 8 (n / 4), Fin.ofNat 4 n)

theorem slotOf_num (h : Slot) : slotOf (4 * h.1.val + h.2.val) = h := by
  obtain ⟨s, t⟩ := h; revert s t; decide

theorem rcvC_inj {a b : Dev nD} {h k : Slot} (e : rcvC a h = rcvC b k) : a = b ∧ h = k := by
  refine ⟨congrArg (fun g : GSem nD τ sig => g.1.1) e, ?_⟩
  have e2 : recvQ h.1 h.2 = recvQ k.1 k.2 := SemLoc.dma.inj (congrArg Prod.snd e)
  have e3 := congrArg Fin.val e2
  rw [recvQ_val, recvQ_val] at e3
  rw [← slotOf_num h, ← slotOf_num k]; congr 1; omega

/-- What one copy of a slot adds to a semaphore. -/
abbrev N : ℕ := (slotM vM 0 0).view.dmaCredit
theorem N_pos : 0 < N := View.dmaCredit_pos _ (by decide)

/-! ## The slots of an array -/

/-- Slot `h` of the array `M` on device `c`, holding `X`; -/
def slotPts (M : Memref sig .tc .vmem S8x4x1x128x1024 .bf16) (c : Dev nD) (h : Slot) (X : Vec F S1x1x1x128x1024 .bf16) : sProp 𝕄 :=
  iprop(∃ f : Buf (Elt F) ((slotM M h.1 h.2).view.loc (c : Thread nD τ)), ⌜M.view.readAt (Elt F) (slotR h.1 h.2).toLoadRect f = X⌝
    ∗ ((slotM M h.1 h.2).view.loc (c : Thread nD τ) ↦[(slotM M h.1 h.2).view.set]{fullShare} f))
/-- holding anything. -/
def slotAny (M : Memref sig .tc .vmem S8x4x1x128x1024 .bf16) (c : Dev nD) (h : Slot) : sProp 𝕄 :=
  iprop(∃ f : Buf (Elt F) ((slotM M h.1 h.2).view.loc (c : Thread nD τ)),
    ((slotM M h.1 h.2).view.loc (c : Thread nD τ) ↦[(slotM M h.1 h.2).view.set]{fullShare} f))

omit [FloatOps F] in
instance slotPts_storable (M) (c : Dev nD) (h : Slot) (X) : BI.Storable (upEmb : UEmb _ 𝕄) (slotPts (F := F) M c h X) := by unfold slotPts; infer_instance
omit [FloatOps F] in
instance slotAny_storable (M) (c : Dev nD) (h : Slot) : BI.Storable (upEmb : UEmb _ 𝕄) (slotAny (F := F) M c h) := by unfold slotAny; infer_instance

omit [FloatOps F] in
theorem slotAny_of_pts (M) (c : Dev nD) (h : Slot) (X) : (slotPts M c h X : sProp 𝕄) ⊢ slotAny (F := F) M c h := by
  unfold slotPts slotAny
  iintro ⟨%f, -, H⟩
  iexists f; iexact H

/-! ## The contents -/

variable (m : (ℓ : Loc nD τ sig) → Buf (Elt F) ℓ)

/-- Device `c`'s columns of `x` and rows of `w`. -/
def xAt (c : Dev nD) : (cc0_stg0_0 : Ref sig .tc).ty.Contents (Elt F) := (win0_0.blk (0 : Fin 1)).view.read (Elt F) (m ((c : Thread nD τ).loc main_arg0))
def wAt (c : Dev nD) : (cc0_stg1_0 : Ref sig .tc).ty.Contents (Elt F) := (win0_1.blk (0 : Fin 1)).view.read (Elt F) (m ((c : Thread nD τ).loc main_arg1))

/-- The 128 rows of device `c`'s columns of `x` that start at `off`. -/
def rowsAt (c : Dev nD) (off : Fin 2 → Nat) (h : ∀ a, off a + S128x128.size a ≤ S2048x128.size a) : Vec F S128x128 .bf16 :=
  xM.view.readAt (Elt F) (Rect.unit (s := S2048x128) off S128x128.size h).toLoadRect (xAt m c)

/-- The device's own product, 2048 × 2048. -/
def partAt (c : Dev nD) : (cc0_scratch0 : Ref sig .tc).ty.Contents (Elt F) := k0_pay9 (xAt m c) (wAt m c)

/-- The 128 × 1024 block of it that starts at `off`. -/
def chunkAt (c : Dev nD) (off : Fin 2 → Nat) (h : ∀ a, off a + S128x1024.size a ≤ S2048x2048.size a) : Vec F S128x1024 .bf16 :=
  pM.view.readAt (Elt F) (Rect.unit (s := S2048x2048) off S128x1024.size h).toLoadRect (partAt m c)

/-- What device `c` sends first on each stream. -/
def initV (t : Fin 4) (c : Dev nD) : Vec F S1x1x1x128x1024 .bf16 :=
  if t.val = 0 then leftHalf (rowProd (rowsAt m c (k0_off1 c 8#32) (k0_off1_inb c 1)) (wAt m c))
  else if t.val = 1 then rightHalf (rowProd (rowsAt m c (k0_off1 c 7#32) (k0_off1_inb c 0)) (wAt m c))
  else if t.val = 2 then rightHalf (rowProd (rowsAt m c (k0_off1 c 8#32) (k0_off1_inb c 1)) (wAt m c))
  else leftHalf (rowProd (rowsAt m c (k0_off1 c 9#32) (k0_off1_inb c 2)) (wAt m c))

/-- What device `c` sends at step `s` of stream `t`: first its own block of the product, then what it received at the step
    before plus its own block. -/
def sndN (t : Fin 4) : ℕ → Dev nD → Vec F S1x1x1x128x1024 .bf16
  | 0, c => initV m t c
  | p + 1, c => addStep (sndN t p (srcD t c)) (chunkAt m c (hopOff c (Fin.ofNat 7 p) t) (hopOff_inb c _ t))

def sndV (h : Slot) (c : Dev nD) : Vec F S1x1x1x128x1024 .bf16 := sndN m h.2 h.1.val c
/-- What arrives in slot `h` of device `c`. -/
def rcvV (h : Slot) (c : Dev nD) : Vec F S1x1x1x128x1024 .bf16 := sndV m h (srcD h.2 c)

theorem sndV_succ (p : Fin 7) (t : Fin 4) (c : Dev nD) :
    sndV m (p.succ, t) c = addStep (rcvV m (p.castSucc, t) c) (chunkAt m c (hopOff c p t) (hopOff_inb c p t)) := by
  have hp : Fin.ofNat 7 p.val = p := Fin.ext (Nat.mod_eq_of_lt p.isLt)
  show addStep (sndN m t p.val (srcD t c)) (chunkAt m c (hopOff c (Fin.ofNat 7 p.val) t) (hopOff_inb c _ t)) = _
  rw [hp]; rfl

/-! ## The schedule -/

/-- What device `c`'s barrier hands it from the neighbour on its right (`true`) or left (`false`): that neighbour's receive
    slots for the streams that go there. -/
def barPay (c : Dev nD) (d : Bool) : sProp 𝕄 :=
  bigSep (Finset.univ.filter fun h : Slot => Used h ∧ (h.2.val < 2 ↔ d = true)) fun h => slotAny vM (dstD h.2 c) h

/-- What a unit of device `c`'s semaphore for slot `h` hands over: the slot sent, free again; the slot received, filled. -/
def sndPay (c : Dev nD) (h : Slot) : sProp 𝕄 := slotPts sM c h (sndV m h c)
def rcvPay (c : Dev nD) (h : Slot) : sProp 𝕄 := slotPts vM c h (rcvV m h c)

omit [FloatOps F] in
instance barPay_storable (c : Dev nD) (d : Bool) : BI.Storable (upEmb : UEmb _ 𝕄) (barPay (F := F) c d) := by unfold barPay; infer_instance
instance sndPay_storable (c : Dev nD) (h : Slot) : BI.Storable (upEmb : UEmb _ 𝕄) (sndPay (F := F) m c h) := by unfold sndPay; infer_instance
instance rcvPay_storable (c : Dev nD) (h : Slot) : BI.Storable (upEmb : UEmb _ 𝕄) (rcvPay (F := F) m c h) := by unfold rcvPay; infer_instance

/-- The duties of a semaphore in its one round: the barrier's two, a used slot's one. -/
def dutiesOf : SemLoc sig → Finset Bool
  | .reg _ => Finset.univ
  | .dma q => if q.val < 35 then (if Used (slotOf (q.val - 3)) then {false} else ∅) else (if Used (slotOf (q.val - 35)) then {false} else ∅)

def amountOf' : SemLoc sig → ℕ
  | .reg _ => 1
  | .dma _ => N

def payOf (c : Dev nD) : SemLoc sig → Bool → sProp 𝕄
  | .reg _, d => barPay c d
  | .dma q, _ => if q.val < 35 then sndPay m c (slotOf (q.val - 3)) else rcvPay m c (slotOf (q.val - 35))

/-- One round: a barrier's two units, one from each neighbour; a used slot's one copy. -/
def ringRd : Rounds.Schedule (GSem nD τ sig) Bool 𝕄 where
  duties g r := if r = 0 then dutiesOf g.2 else ∅
  unitless _ := False
  amount g _ _ := amountOf' g.2
  payload g _ d := payOf m g.1.1 g.2 d
  amount_pos g _ _ _ := by
    obtain ⟨th, sm⟩ := g
    cases sm with
    | reg _ => exact Nat.one_pos
    | dma _ => exact N_pos

instance ringRd_payload_storable (g : GSem nD τ sig) (r : ℕ) (d : Bool) :
    BI.Storable (upEmb : UEmb _ 𝕄) ((ringRd (F := F) m).payload g r d) := by
  obtain ⟨th, sm⟩ := g
  show BI.Storable upEmb (payOf m th.1 sm d)
  cases sm with
  | reg _ => exact barPay_storable _ _
  | dma q => unfold payOf; dsimp only; split <;> infer_instance

section Sched
variable (c : Dev nD) (h : Slot)

theorem sendQ_lt : (sendQ h.1 h.2).val < 35 := by rw [sendQ_val]; omega
theorem recvQ_not_lt : ¬ (recvQ h.1 h.2).val < 35 := by rw [recvQ_val]; omega
theorem slotOf_sendQ : slotOf ((sendQ h.1 h.2).val - 3) = h := by rw [sendQ_val, Nat.add_sub_cancel_left, slotOf_num]
theorem slotOf_recvQ : slotOf ((recvQ h.1 h.2).val - 35) = h := by rw [recvQ_val, Nat.add_sub_cancel_left, slotOf_num]

theorem duties_bar : (ringRd (F := F) m).duties (barC c) 0 = Finset.univ := rfl
theorem duties_snd : (ringRd (F := F) m).duties (sndC c h) 0 = if Used h then {false} else ∅ := by
  show (if (sendQ h.1 h.2).val < 35 then _ else _) = _
  rw [if_pos (sendQ_lt h), slotOf_sendQ]
theorem duties_rcv : (ringRd (F := F) m).duties (rcvC c h) 0 = if Used h then {false} else ∅ := by
  show (if (recvQ h.1 h.2).val < 35 then _ else _) = _
  rw [if_neg (recvQ_not_lt h), slotOf_recvQ]
theorem duties_later (g : GSem nD τ sig) : ∀ r, 1 ≤ r → (ringRd (F := F) m).duties g r = ∅ :=
  fun r hr => if_neg fun h => by omega

theorem mem_snd (hu : Used h) : false ∈ (ringRd (F := F) m).duties (sndC c h) 0 := by
  rw [duties_snd, if_pos hu]; exact Finset.mem_singleton_self _
theorem mem_rcv (hu : Used h) : false ∈ (ringRd (F := F) m).duties (rcvC c h) 0 := by
  rw [duties_rcv, if_pos hu]; exact Finset.mem_singleton_self _

theorem expect_bar : (ringRd (F := F) m).expect (barC c) 0 = 2 := by
  unfold Schedule.expect Schedule.amountOf; rw [duties_bar]; rfl
theorem expect_snd (hu : Used h) : (ringRd (F := F) m).expect (sndC c h) 0 = N := by
  unfold Schedule.expect Schedule.amountOf; rw [duties_snd, if_pos hu, Finset.sum_singleton]; rfl
theorem expect_rcv (hu : Used h) : (ringRd (F := F) m).expect (rcvC c h) 0 = N := by
  unfold Schedule.expect Schedule.amountOf; rw [duties_rcv, if_pos hu, Finset.sum_singleton]; rfl

theorem payload_bar (d : Bool) : (ringRd (F := F) m).payload (barC c) 0 d = barPay c d := rfl
theorem payload_snd (d : Bool) : (ringRd (F := F) m).payload (sndC c h) 0 d = sndPay m c h := by
  show (if (sendQ h.1 h.2).val < 35 then _ else _) = _
  rw [if_pos (sendQ_lt h), slotOf_sendQ]
theorem payload_rcv (d : Bool) : (ringRd (F := F) m).payload (rcvC c h) 0 d = rcvPay m c h := by
  show (if (recvQ h.1 h.2).val < 35 then _ else _) = _
  rw [if_neg (recvQ_not_lt h), slotOf_recvQ]

theorem rest_bar : bigSep ((ringRd (F := F) m).duties (barC c) 0 \ ∅) (fun d => (ringRd (F := F) m).payload (barC c) 0 d)
    = iprop(barPay c false ∗ barPay c true) := by
  rw [Finset.sdiff_empty, duties_bar, bigSep_univ_eq_bigSepL [false, true] (by decide) (by decide), bigSepL_cons_cons, bigSepL_singleton]
  rfl
theorem rest_snd (hu : Used h) : bigSep ((ringRd (F := F) m).duties (sndC c h) 0 \ ∅) (fun d => (ringRd (F := F) m).payload (sndC c h) 0 d) = sndPay m c h := by
  rw [Finset.sdiff_empty, duties_snd, if_pos hu, bigSep_singleton, payload_snd]
theorem rest_rcv (hu : Used h) : bigSep ((ringRd (F := F) m).duties (rcvC c h) 0 \ ∅) (fun d => (ringRd (F := F) m).payload (rcvC c h) 0 d) = rcvPay m c h := by
  rw [Finset.sdiff_empty, duties_rcv, if_pos hu, bigSep_singleton, payload_rcv]

end Sched

/-! ## What each device owes; the levels -/

/-- The credits of the slots of the list that device `c` still has to send. -/
def oweL (c : Dev nD) : List Slot → CellTallies nD τ sig Unit
  | [] => 0
  | h :: l => oweL c l + tallyAt (rcvC (dstD h.2 c) h) () N

theorem oweL_rcv (d c : Dev nD) (k : Slot) (l : List Slot) (hl : l.Nodup) :
    oweL d l (rcvC c k) () = if k ∈ l ∧ d = srcD k.2 c then N else 0 := by
  induction l with
  | nil => rw [if_neg (fun h => by cases h.1)]; rfl
  | cons h l ih =>
    rw [List.nodup_cons] at hl
    show (oweL d l + tallyAt (rcvC (dstD h.2 d) h) () N) (rcvC c k) () = _
    rw [Pi.add_apply, Finsupp.add_apply, ih hl.2, tallyAt_apply]
    by_cases hk : k = h
    · subst hk
      rw [if_neg (fun h => hl.1 h.1), Nat.zero_add]
      by_cases hd : d = srcD k.2 c
      · subst hd; rw [dstD_srcD, if_pos ⟨rfl, rfl⟩, if_pos ⟨List.mem_cons_self, rfl⟩]
      · rw [if_neg (fun e => hd (by rw [(rcvC_inj e.1).1, srcD_dstD])), if_neg (fun e => hd e.2)]
    · rw [if_neg (c := _ ∧ _) (fun e => hk (rcvC_inj e.1).2), Nat.add_zero]
      simp only [List.mem_cons, hk, false_or]

theorem oweL_pos {d : Dev nD} {l : List Slot} {g : GSem nD τ sig} {u : Unit} (hp : 0 < oweL d l g u) : ∃ h ∈ l, g = rcvC (dstD h.2 d) h := by
  induction l with
  | nil => exact absurd hp (Nat.lt_irrefl 0)
  | cons h l ih =>
    change 0 < (oweL d l + tallyAt (rcvC (dstD h.2 d) h) () N) g u at hp
    rw [Pi.add_apply, Finsupp.add_apply, tallyAt_apply] at hp
    by_cases hg : g = rcvC (dstD h.2 d) h ∧ u = ()
    · exact ⟨h, List.mem_cons_self, hg.1⟩
    · rw [if_neg hg, Nat.add_zero] at hp
      obtain ⟨k, hk, e⟩ := ih hp
      exact ⟨k, List.mem_cons_of_mem _ hk, e⟩

def L (g : GSem nD τ sig) : Finset Unit := if g.1.2 = .tc then {()} else ∅
/-- Barriers are at level 1, the receive semaphores of step `s` at `2 + s`, everything else at 0. -/
def lvS : SemLoc sig → ℕ
  | .reg _ => 1
  | .dma q => if q.val < 35 then 0 else 2 + (q.val - 35) / 4
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rcv (h : Slot) : lvS (.dma (recvQ h.1 h.2)) = 2 + h.1.val := by
  show (if (recvQ h.1 h.2).val < 35 then 0 else 2 + ((recvQ h.1 h.2).val - 35) / 4) = _
  rw [if_neg (recvQ_not_lt h), recvQ_val]; omega

omit [FloatOps F] in
/-- A device may wait on a semaphore that is below all it still owes. -/
theorem mayWait_of_lt (c : Dev nD) (sm : SemLoc sig) (O : CellTallies nD τ sig Unit)
    (hO : ∀ g u, 0 < O g u → g.1.2 = .tc ∧ lvS sm < lvS g.2) : (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => (hO g u hg).2)

omit [FloatOps F] in
theorem mayWait_oweL (c : Dev nD) (sm : SemLoc sig) (l : List Slot) (hl : ∀ h ∈ l, lvS sm < 2 + h.1.val) :
    (levAts L lv : sProp 𝕄) ⊢ MayWait (c : Thread nD τ) sm () (oweL c l) :=
  mayWait_of_lt c sm _ fun g u hg => by
    obtain ⟨h, hh, rfl⟩ := oweL_pos hg
    exact ⟨rfl, by rw [lvS_rcv]; exact hl h hh⟩

end Cert.RingProof

end
-- ==== Proof.Steps.lean ====
/-
One rule for each operation of the body, at a symbolic device and slot: reading and writing a slot, starting a copy, waiting for an
arrival, waiting for a send. Together with a small separating conjunction over a list, which the loops of the body recurse on.
-/
module

public import proofs.«01_k».proof.Proof.Cells

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The separating conjunction over a list -/

/-- `Φ a₁ ∗ Φ a₂ ∗ … ∗ emp`. -/
def sepL {M : Type} [URA M] {A : Type} : List A → (A → sProp M) → sProp M
  | [], _ => iprop(emp)
  | a :: l, Φ => iprop(Φ a ∗ sepL l Φ)

section SepL
variable {M : Type} [URA M] {A B : Type}

theorem sepL_nil (Φ : A → sProp M) : sepL [] Φ = iprop(emp) := rfl
theorem sepL_cons (a : A) (l : List A) (Φ : A → sProp M) : sepL (a :: l) Φ = iprop(Φ a ∗ sepL l Φ) := rfl

/-- Over a list without repetitions it is the one over the list's set. -/
theorem sepL_eq_bigSep [DecidableEq A] (l : List A) (hl : l.Nodup) (Φ : A → sProp M) : sepL l Φ = bigSep l.toFinset Φ := by
  induction l with
  | nil => rw [List.toFinset_nil, bigSep_empty]; rfl
  | cons a l ih =>
    rw [List.nodup_cons] at hl
    rw [List.toFinset_cons, bigSep_insert (by rw [List.mem_toFinset]; exact hl.1), sepL_cons, ih hl.2]; rfl

/-- Only the set of the list's elements matters. -/
theorem sepL_perm [DecidableEq A] (l l' : List A) (hl : l.Nodup) (hl' : l'.Nodup) (h : l.toFinset = l'.toFinset) (Φ : A → sProp M) :
    sepL l Φ = sepL l' Φ := by rw [sepL_eq_bigSep l hl, sepL_eq_bigSep l' hl', h]

theorem sepL_univ [DecidableEq A] [Fintype A] (l : List A) (hl : l.Nodup) (h : l.toFinset = Finset.univ) (Φ : A → sProp M) :
    bigSep Finset.univ Φ = sepL l Φ := by rw [sepL_eq_bigSep l hl, h]

theorem sepL_map (f : B → A) (l : List B) (Φ : A → sProp M) : sepL (l.map f) Φ = sepL l (fun b => Φ (f b)) := by
  induction l with
  | nil => rfl
  | cons b l ih => rw [List.map_cons, sepL_cons, sepL_cons, ih]

theorem sepL_append (l l' : List A) (Φ : A → sProp M) : sepL (l ++ l') Φ ⊣⊢ iprop(sepL l Φ ∗ sepL l' Φ) := by
  induction l with
  | nil =>
    rw [List.nil_append, sepL_nil]
    constructor
    · iintro H; isplitr; · iempintro
      iexact H
    · iintro ⟨-, H⟩; iexact H
  | cons a l ih =>
    rw [List.cons_append, sepL_cons, sepL_cons]
    constructor
    · iintro ⟨Ha, H⟩
      ihave H' := ih.1 $$ H
      icases H' with ⟨H1, H2⟩
      isplitl [Ha H1]
      · isplitl [Ha]; · iexact Ha
        iexact H1
      iexact H2
    · iintro ⟨⟨Ha, H1⟩, H2⟩
      isplitl [Ha]; · iexact Ha
      iapply ih.2
      isplitl [H1]; · iexact H1
      iexact H2

theorem sepL_sep (l : List A) (Φ Ψ : A → sProp M) : sepL l (fun a => iprop(Φ a ∗ Ψ a)) ⊣⊢ iprop(sepL l Φ ∗ sepL l Ψ) := by
  induction l with
  | nil =>
    rw [sepL_nil, sepL_nil]
    constructor
    · iintro -; isplitr <;> iempintro
    · iintro -; iempintro
  | cons a l ih =>
    rw [sepL_cons, sepL_cons, sepL_cons]
    constructor
    · iintro ⟨⟨Ha, Hb⟩, H⟩
      ihave H' := ih.1 $$ H
      icases H' with ⟨H1, H2⟩
      isplitl [Ha H1]
      · isplitl [Ha]; · iexact Ha
        iexact H1
      isplitl [Hb]; · iexact Hb
      iexact H2
    · iintro ⟨⟨Ha, H1⟩, Hb, H2⟩
      isplitl [Ha Hb]
      · isplitl [Ha]; · iexact Ha
        iexact Hb
      iapply ih.2
      isplitl [H1]; · iexact H1
      iexact H2

theorem sepL_mono (l : List A) (Φ Ψ : A → sProp M) (h : ∀ a ∈ l, Φ a ⊢ Ψ a) : sepL l Φ ⊢ sepL l Ψ := by
  induction l with
  | nil => exact BI.Entails.refl _
  | cons a l ih =>
    rw [sepL_cons, sepL_cons]
    iintro ⟨Ha, H⟩
    isplitl [Ha]
    · iapply (h a List.mem_cons_self); iexact Ha
    · iapply (ih fun b hb => h b (List.mem_cons_of_mem _ hb)); iexact H

end SepL

/-! ## The cells' invariants -/

/-- The cells of one device: the barrier, the send semaphores (`false`) and the receive semaphores (`true`). -/
abbrev CI : Type := Option (Bool × Slot)

def csem : CI → SemLoc sig
  | none => .reg barrier0
  | some (false, h) => .dma (sendQ h.1 h.2)
  | some (true, h) => .dma (recvQ h.1 h.2)

abbrev kcell (ck : Dev nD × CI) : GSem nD τ sig := ((ck.1 : Thread nD τ), csem ck.2)

variable (m : (ℓ : Loc nD τ sig) → Buf (Elt F) ℓ)
variable (K : Dev nD × CI → ℕ)

/-- Every cell's invariant and that every cell is at its first round: known to all devices, for ever. -/
def records : sProp 𝕄 :=
  iprop((bigSep Finset.univ fun ck : Dev nD × CI => cellInv ER (ringRd m) (K ck) (kcell ck))
    ∗ (bigSep Finset.univ fun ck : Dev nD × CI => reached ER (kcell ck) 0) ∗ levAts L lv)

instance records_persistent : BI.Persistent (records m K) := by unfold records; infer_instance

theorem inv_at (ck : Dev nD × CI) : records m K ⊢ cellInv ER (ringRd m) (K ck) (kcell ck) := by
  unfold records
  have h : (bigSep Finset.univ fun ck : Dev nD × CI => (cellInv ER (ringRd m) (K ck) (kcell ck) : sProp 𝕄)) ⊢ cellInv ER (ringRd m) (K ck) (kcell ck) :=
    bigSep_elim (Finset.mem_univ ck)
  iintro ⟨H, -⟩
  iapply h; iexact H
theorem reached_at (ck : Dev nD × CI) : records m K ⊢ reached ER (kcell ck) 0 := by
  unfold records
  have h : (bigSep Finset.univ fun ck : Dev nD × CI => (reached ER (kcell ck) 0 : sProp 𝕄)) ⊢ reached ER (kcell ck) 0 :=
    bigSep_elim (Finset.mem_univ ck)
  iintro ⟨-, H, -⟩
  iapply h; iexact H
theorem levs_at : records m K ⊢ levAts L lv := by
  unfold records
  iintro ⟨-, -, H⟩; iexact H

/-! ## The rules -/

/-- What a device owes, its past waits forgotten. -/
def owesX (c : Dev nD) (O : CellTallies nD τ sig Unit) : sProp 𝕄 := iprop(∃ W, owes (c : Thread nD τ) O W)

variable (c : Dev nD) (Q : PUnit.{1} → sProp (MT nD τ sig Unit (Elt F) ℕ UU ℕ))

/-- The weakest precondition of a program of device `c`. -/
abbrev wpc (p : P F PUnit) : sProp 𝕄 := wp frame (wpE (defs₀ (F := F)) 𝒱₀ (c : Thread nD τ) none) Set.univ p Q

omit [FloatOps F] in
theorem slot_set (M : Memref sig .tc .vmem S8x4x1x128x1024 .bf16) (s : Fin 8) (t : Fin 4) :
    (slotM M s t).view.set = M.view.setOn (slotR s t).set :=
  (View.set_reshape (M.view.slice (slotR s t)) _).trans (View.set_slice _ _)

omit [FloatOps F] in
theorem slot_read_set (M : Memref sig .tc .vmem S8x4x1x128x1024 .bf16) (s : Fin 8) (t : Fin 4) :
    M.view.setOn (slotR s t).toLoadRect.set ⊆ (slotM M s t).view.set := by
  rw [slot_set]

omit [FloatOps F] in
theorem slot_write_set (M : Memref sig .tc .vmem S8x4x1x128x1024 .bf16) (s : Fin 8) (t : Fin 4) :
    (M.access (slotR s t)).setOn Finset.univ ⊆ (slotM M s t).view.set := by
  rw [slot_set, View.setOn_univ, View.set_slice]
  exact Finset.Subset.refl _

/-- Reading a slot whose contents are known; -/
theorem wp_loadSlot (M : Memref sig .tc .vmem S8x4x1x128x1024 .bf16) (s : Fin 8) (t : Fin 4) (X : Vec F S1x1x1x128x1024 .bf16)
    (k : Vec F S1x1x1x128x1024 .bf16 → P F PUnit) :
    slotPts M c (s, t) X ⊢ iprop((slotPts M c (s, t) X -∗ wpc (F := F) c Q (k X)) -∗ wpc (F := F) c Q (loadSlotOp M s t k)) := by
  unfold slotPts
  iintro ⟨%f, %hf, H⟩ Hk
  iapply (wp_load 𝒱₀ (c : Thread nD τ) none Set.univ (m := M) (slot_read_set M s t)) $$ H
  iintro H
  rw [hf]
  iapply Hk
  iexists f
  isplitr; · (ipureintro; exact hf)
  iexact H

/-- and reading one to no use. -/
theorem wp_loadSlotAny (M : Memref sig .tc .vmem S8x4x1x128x1024 .bf16) (s : Fin 8) (t : Fin 4) (k : P F PUnit) :
    slotAny (F := F) M c (s, t) ⊢ iprop((slotAny (F := F) M c (s, t) -∗ wpc (F := F) c Q k) -∗ wpc (F := F) c Q (loadSlotOp M s t fun _ => k)) := by
  unfold slotAny
  iintro ⟨%f, H⟩ Hk
  iapply (wp_load 𝒱₀ (c : Thread nD τ) none Set.univ (m := M) (slot_read_set M s t)) $$ H
  iintro H
  iapply Hk
  iexists f
  iexact H

/-- Writing a send slot. -/
theorem wp_storeSlot (s : Fin 8) (t : Fin 4) (X : Vec F S1x1x1x128x1024 .bf16) (k : PUnit → P F PUnit) :
    slotAny sM c (s, t) ⊢ iprop((slotPts sM c (s, t) X -∗ wpc (F := F) c Q (k ⟨⟩)) -∗ wpc (F := F) c Q (storeSlotOp s t X k)) := by
  unfold slotAny slotPts
  iintro ⟨%f, H⟩ Hk
  iapply (wp_store 𝒱₀ (c : Thread nD τ) none Set.univ (m := sM) (r := slotR s t) (Mk := Finset.univ) (slot_write_set sM s t)) $$ H
  iintro H
  iapply Hk
  iexists ((sM.access (slotR s t)).write (Elt F) f X Finset.univ)
  isplitr
  · ipureintro
    rw [View.readAt_rect]
    exact View.read_write_univ _ _
  iexact H

omit [FloatOps F] in
/-- A copy carries a slot's contents over. -/
theorem read_copied (s : Fin 8) (t : Fin 4) (fd : (vM : Memref sig .tc .vmem S8x4x1x128x1024 .bf16).view.ty.Contents (Elt F))
    (fs : (sM : Memref sig .tc .vmem S8x4x1x128x1024 .bf16).view.ty.Contents (Elt F)) :
    vM.view.readAt (Elt F) (slotR s t).toLoadRect
        ((slotM vM s t).view.write (Elt F) fd ((slotM sM s t).view.read (Elt F) fs) Finset.univ)
      = sM.view.readAt (Elt F) (slotR s t).toLoadRect fs := by
  have h := View.read_write_univ (v := (slotM vM s t).view) (Val := Elt F) fd ((slotM sM s t).view.read (Elt F) fs)
  funext x
  have hx := congrFun h ((Shape.reshapeEquiv squeezes_S1x1x1x128x1024_S128x1024.numel_eq).symm x)
  change vM.view.readAt (Elt F) (slotR s t).toLoadRect _ (Shape.reshapeEquiv _ ((Shape.reshapeEquiv _).symm x))
    = sM.view.readAt (Elt F) (slotR s t).toLoadRect _ (Shape.reshapeEquiv _ ((Shape.reshapeEquiv _).symm x)) at hx
  rw [Equiv.apply_symm_apply] at hx
  exact hx

/-- Starting the copy of a send slot to the stream's next device. -/
theorem wp_start (s : Fin 8) (t : Fin 4) (hu : Used (s, t)) (O : CellTallies nD τ sig Unit) (k : PUnit → P F PUnit) :
    iprop(records m K ∗ slotPts sM c (s, t) (sndV m (s, t) c) ∗ slotAny vM (dstD t c) (s, t)
        ∗ owesX c (O + tallyAt (rcvC (dstD t c) (s, t)) () N)
        ∗ dutyTok ER (sndC c (s, t)) 0 false ∗ dutyTok ER (rcvC (dstD t c) (s, t)) 0 false)
      ⊢ iprop(((cred (tallyAt (sndC c (s, t)) () N) ∗ owesX c O) -∗ wpc (F := F) c Q (k ⟨⟩)) -∗ wpc (F := F) c Q (startOp c s t k)) := by
  unfold slotPts slotAny owesX
  iintro ⟨#HR, ⟨%fs, %hfs, Hs⟩, ⟨%fd, Hd⟩, ⟨%W, HO⟩, Ht1, Ht2⟩ Hk
  iapply (Rounds.wp_send_pointsTo 𝒱₀ ER (ringRd m) (c : Thread nD τ) none (κ₁ := K (c, some (false, (s, t)))) (κ₂ := K (dstD t c, some (true, (s, t))))
    (r₁ := 0) (r₂ := 0) (d₁ := false) (d₂ := false) (fs := fs) (fd := fd)
    (mem_snd m c (s, t) hu) (mem_rcv m (dstD t c) (s, t) hu) () () N rfl rfl rfl O rfl (W := W)
    (by
      rw [payload_snd]; unfold sndPay slotPts
      iintro H; iexists fs
      isplitr; · (ipureintro; exact hfs)
      iexact H)
    (by
      rw [payload_rcv]; unfold rcvPay slotPts rcvV
      iintro H; iexists _
      isplitr
      swap
      · iexact H
      · ipureintro
        rw [srcD_dstD, ← hfs]
        exact read_copied s t fd fs)) $$ [HO Hs Hd Ht1 Ht2]
  · isplitr; · iapply (inv_at m K (c, some (false, (s, t)))); iexact HR
    isplitr; · iapply (inv_at m K (dstD t c, some (true, (s, t)))); iexact HR
    isplitl [Hs]; · iexact Hs
    isplitl [Hd]; · iexact Hd
    isplitl [HO]; · iexact HO
    isplitl [Ht1]; · iexact Ht1
    isplitr; · iapply (reached_at m K (c, some (false, (s, t)))); iexact HR
    isplitl [Ht2]; · iexact Ht2
    iapply (reached_at m K (dstD t c, some (true, (s, t)))); iexact HR
  iintro ⟨Hc, HO⟩
  iapply Hk
  isplitl [Hc]; · iexact Hc
  iexists W; iexact HO

set_option maxRecDepth 8000 in
/-- Waiting for an arrival, everything still owed being of later steps. -/
theorem wp_waitRecv (s : Fin 8) (t : Fin 4) (hu : Used (s, t)) (l : List Slot) (hl : ∀ h ∈ l, s.val < h.1.val) (k : PUnit → P F PUnit) :
    iprop(records m K ∗ cred (tallyAt (rcvC c (s, t)) () N) ∗ atPos ER (rcvC c (s, t)) 0 ∅ 0 ∗ owesX c (oweL c l))
      ⊢ iprop(((atPos ER (rcvC c (s, t)) 1 ∅ 0 ∗ slotPts vM c (s, t) (rcvV m (s, t) c) ∗ owesX c (oweL c l)) -∗ wpc (F := F) c Q (k ⟨⟩))
        -∗ wpc (F := F) c Q (waitRecvOp s t k)) := by
  have hlv : ∀ h ∈ l, lvS (.dma (recvQ s t)) < 2 + h.1.val := fun h hh => by
    rw [lvS_rcv (s, t)]; exact Nat.add_lt_add_left (hl h hh) 2
  have hmw : records m K ⊢ MayWait (c : Thread nD τ) (.dma (recvQ s t)) () (oweL c l) :=
    BI.Entails.trans (Q := (levAts L lv : sProp 𝕄)) (by exact levs_at m K) (by exact mayWait_oweL (F := F) c (.dma (recvQ s t)) l hlv)
  unfold owesX
  iintro ⟨#HR, Hc, Ha, ⟨%W, HO⟩⟩ Hk
  iapply (Rounds.wp_wait_rest_token 𝒱₀ ER (ringRd m) (c : Thread nD τ) none (κ := K (c, some (true, (s, t))))
      (wpE_waitDma2_eq 𝒱₀ (c : Thread nD τ) none Set.univ) (Set.mem_univ _) () (O := oweL c l) (W := W) (R := 0) (m := 0) (T := ∅)
      (by rw [Nat.zero_add]; exact (expect_rcv m c (s, t) hu).symm)) $$ [Hc HO Ha]
  · isplitr; · iapply (inv_at m K (c, some (true, (s, t)))); iexact HR
    isplitl [Hc]; · iexact Hc
    isplitl [HO]; · iexact HO
    isplitr
    · iapply hmw; iexact HR
    iexact Ha
  iintro ⟨HO, Ha, -, Hp⟩
  ihave Hp' := (Entails.of_eq (rest_rcv m c (s, t) hu)) $$ Hp
  unfold rcvPay
  iapply Hk
  isplitl [Ha]; · iexact Ha
  isplitl [Hp']; · iexact Hp'
  iexists _; iexact HO

/-- Waiting for a send, nothing being owed any more. -/
theorem wp_waitSend (s : Fin 8) (t : Fin 4) (hu : Used (s, t)) (k : PUnit → P F PUnit) :
    iprop(records m K ∗ cred (tallyAt (sndC c (s, t)) () N) ∗ atPos ER (sndC c (s, t)) 0 ∅ 0 ∗ owesX c 0)
      ⊢ iprop(((atPos ER (sndC c (s, t)) 1 ∅ 0 ∗ slotAny sM c (s, t) ∗ owesX c 0) -∗ wpc (F := F) c Q (k ⟨⟩))
        -∗ wpc (F := F) c Q (waitSendOp s t k)) := by
  unfold owesX
  iintro ⟨#HR, Hc, Ha, ⟨%W, HO⟩⟩ Hk
  iapply (Rounds.wp_wait_rest_token 𝒱₀ ER (ringRd m) (c : Thread nD τ) none (κ := K (c, some (false, (s, t))))
      (wpE_waitDma2_eq 𝒱₀ (c : Thread nD τ) none Set.univ) (Set.mem_univ _) () (O := 0) (W := W) (R := 0) (m := 0) (T := ∅)
      (by rw [Nat.zero_add]; exact (expect_snd m c (s, t) hu).symm)) $$ [Hc HO Ha]
  · isplitr; · iapply (inv_at m K (c, some (false, (s, t)))); iexact HR
    isplitl [Hc]; · iexact Hc
    isplitl [HO]; · iexact HO
    isplitr; · rw [MayWait_zero]; iempintro
    iexact Ha
  iintro ⟨HO, Ha, -, Hp⟩
  ihave Hp' := (Entails.of_eq (rest_snd m c (s, t) hu)) $$ Hp
  unfold sndPay
  iapply Hk
  isplitl [Ha]; · iexact Ha
  isplitl [Hp']; · iapply (slotAny_of_pts sM c (s, t) _); iexact Hp'
  iexists _; iexact HO

/-- A cell past its last duty closes: its counter is zero. -/
theorem close_cell (ck : Dev nD × CI) (R : ℕ) (hR : ∀ r, R ≤ r → (ringRd (F := F) m).duties (kcell ck) r = ∅) :
    iprop(records m K ∗ atPos ER (kcell ck) R ∅ 0) ⊢ (|={Set.univ}=> semVal (kcell ck) 0 : sProp 𝕄) := by
  iintro ⟨#HR, Ha⟩
  iapply (Rounds.cell_close ER (ringRd m) (Set.mem_univ (K ck)) (fun h => h) (R := R) hR)
  isplitr; · iapply (inv_at m K ck); iexact HR
  iexact Ha

end Cert.RingProof

end
-- ==== Proof.Body.lean ====
/-
The body of the kernel on a symbolic device: from its share of the ring's resources to the result in its staging buffer.

The loops go by induction over the lists of hops and of send waits; one hop is proved once.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)
variable (c : Dev nD) (Q : PUnit.{1} → sProp (MT nD τ sig Unit (Elt F) ℕ UU ℕ))

/-! ## The lists -/

/-- The slots of a forwarding hop: the one it receives from and the one it sends. -/
abbrev srcS (h : Fin 7 × Fin 4) : Slot := (h.1.castSucc, h.2)
abbrev tgtS (h : Fin 7 × Fin 4) : Slot := (h.1.succ, h.2)

/-- The first copies in program order, the last arrivals in program order, the slots not used. -/
def starts : List Slot := [(0, 0), (0, 2), (0, 1), (0, 3)]
def lasts : List Slot := [(7, 0), (6, 3), (6, 1), (7, 2)]
def unused : List Slot := [(7, 1), (7, 3)]
/-- The used slots of the streams to the right and of those to the left. -/
def sendsR : List Slot := sends.take 15
def sendsL : List Slot := sends.drop 15
/-- All slots sent, in program order. -/
def sentL : List Slot := starts ++ hops.map tgtS

theorem sends_nodup : sends.Nodup := by decide
theorem sentL_nodup : sentL.Nodup := by decide
theorem recvL_nodup : (hops.map srcS ++ lasts).Nodup := by decide
theorem all_nodup : (sends ++ unused).Nodup := by decide
theorem all_univ : (sends ++ unused).toFinset = Finset.univ := by decide
theorem sends_sent : sends.toFinset = sentL.toFinset := by decide
theorem sends_recv : sends.toFinset = (hops.map srcS ++ lasts).toFinset := by decide
theorem sends_split : sends = sendsR ++ sendsL := rfl
theorem sends_used : ∀ h ∈ sends, Used h := by decide
theorem hops_used : ∀ h ∈ hops, Used (tgtS h) := by decide
theorem hops_sorted : hops.Pairwise (fun a b => a.1 ≤ b.1) := by decide
theorem starts_used : ∀ h ∈ starts, Used h := by decide
theorem unused_not : ∀ h ∈ unused, ¬ Used h := by decide
theorem sendsR_set : sendsR.toFinset = Finset.univ.filter fun h : Slot => Used h ∧ (h.2.val < 2 ↔ true = true) := by decide
theorem sendsL_set : sendsL.toFinset = Finset.univ.filter fun h : Slot => Used h ∧ (h.2.val < 2 ↔ false = true) := by decide
theorem used_set : (Finset.univ.filter fun h : Slot => Used h) = sends.toFinset := by decide
theorem sendsR_lt : ∀ h ∈ sendsR, h.2.val < 2 := by decide
theorem sendsL_not_lt : ∀ h ∈ sendsL, ¬ h.2.val < 2 := by decide

/-! ## What the barrier hands over -/

theorem barPay_true : barPay (F := F) c true = sepL sendsR fun h => slotAny vM (dstD h.2 c) h := by
  unfold barPay; rw [← sendsR_set, sepL_eq_bigSep sendsR (by decide)]
theorem barPay_false : barPay (F := F) c false = sepL sendsL fun h => slotAny vM (dstD h.2 c) h := by
  unfold barPay; rw [← sendsL_set, sepL_eq_bigSep sendsL (by decide)]

/-- The device's own receive slots for the streams to the right are what its left neighbour waits for; -/
theorem give_left : sepL sendsR (fun h => slotAny (F := F) vM c h) ⊢ barPay (F := F) (lft c) true := by
  rw [barPay_true]
  refine sepL_mono _ _ _ fun h hh => Entails.of_eq ?_
  rw [dstD_eq, if_pos (sendsR_lt h hh), rgt_lft]
/-- those for the streams to the left are what its right neighbour waits for. -/
theorem give_right : sepL sendsL (fun h => slotAny (F := F) vM c h) ⊢ barPay (F := F) (rgt c) false := by
  rw [barPay_false]
  refine sepL_mono _ _ _ fun h hh => Entails.of_eq ?_
  rw [dstD_eq, if_neg (sendsL_not_lt h hh), lft_rgt]
/-- What both hand it: the next device's slot for every copy. -/
theorem barPay_get : iprop(barPay (F := F) c false ∗ barPay (F := F) c true) ⊢ sepL sends fun h => slotAny vM (dstD h.2 c) h := by
  rw [barPay_true, barPay_false, sends_split]
  iintro ⟨H1, H2⟩
  iapply (sepL_append sendsR sendsL _).2
  isplitl [H2]; · iexact H2
  iexact H1

/-! ## The resources of one slot -/

/-- What sending slot `h` takes beside the slot's contents; what waiting for its arrival takes; -/
def sendR (h : Slot) : sProp 𝕄 :=
  iprop(slotAny vM (dstD h.2 c) h ∗ dutyTok ER (sndC c h) 0 false ∗ dutyTok ER (rcvC (dstD h.2 c) h) 0 false)
def recvR (h : Slot) : sProp 𝕄 := iprop(cred (tallyAt (rcvC c h) () N) ∗ atPos ER (rcvC c h) 0 ∅ 0)
/-- what a started copy leaves; what an arrival leaves. -/
def sentR (h : Slot) : sProp 𝕄 := cred (tallyAt (sndC c h) () N)
def rcvdR (h : Slot) : sProp 𝕄 := iprop(atPos ER (rcvC c h) 1 ∅ 0 ∗ slotAny (F := F) vM c h)
/-- What a finished send leaves. -/
def doneR (h : Slot) : sProp 𝕄 := iprop(atPos ER (sndC c h) 1 ∅ 0 ∗ slotAny (F := F) sM c h)

/-- The buffers the body reads and writes whole. -/
def partPts : sProp 𝕄 := (((c : Thread nD τ).loc cc0_scratch0) ↦{fullShare} partAt m c)
def xPts : sProp 𝕄 := (((c : Thread nD τ).loc cc0_stg0_0) ↦{fullShare} xAt m c)
def wPts : sProp 𝕄 := (((c : Thread nD τ).loc cc0_stg1_0) ↦{fullShare} wAt m c)

theorem wp_loadPart (off : Fin 2 → Nat) (h : ∀ a, off a + S128x1024.size a ≤ S2048x2048.size a) (k : Vec F S128x1024 .bf16 → P F PUnit) :
    partPts m c ⊢ iprop((partPts m c -∗ wpc (F := F) c Q (k (chunkAt m c off h))) -∗ wpc (F := F) c Q (loadPartOp off h k)) := by
  unfold partPts
  exact wp_load 𝒱₀ (c : Thread nD τ) none Set.univ (m := pM) (Finset.subset_univ _)

theorem wp_loadX (off : Fin 2 → Nat) (h : ∀ a, off a + S128x128.size a ≤ S2048x128.size a) (k : Vec F S128x128 .bf16 → P F PUnit) :
    xPts m c ⊢ iprop((xPts m c -∗ wpc (F := F) c Q (k (rowsAt m c off h))) -∗ wpc (F := F) c Q (loadXOp off h k)) := by
  unfold xPts
  exact wp_load 𝒱₀ (c : Thread nD τ) none Set.univ (m := xM) (Finset.subset_univ _)

omit [FloatOps F] in
theorem hz : (![0, 0] : Fin 2 → Nat) = fun _ => 0 := funext fun a => by fin_cases a <;> rfl

theorem wp_loadW (k : Vec F S128x2048 .bf16 → P F PUnit) :
    wPts m c ⊢ iprop((wPts m c -∗ wpc (F := F) c Q (k (wAt m c))) -∗ wpc (F := F) c Q (loadWOp k)) := by
  have e : wM.view.readAt (Elt F) (Rect.unit (s := S128x2048) ![0, 0] S128x2048.size inb_S128x2048_S128x2048_0_0).toLoadRect (wAt m c) = wAt m c :=
    Memref.readAt_unit_zero (Elt F) cc0_stg1_0 hz _ _
  suffices h : wPts m c ⊢ iprop((wPts m c -∗ wpc (F := F) c Q (k (wM.view.readAt (Elt F)
      (Rect.unit (s := S128x2048) ![0, 0] S128x2048.size inb_S128x2048_S128x2048_0_0).toLoadRect (wAt m c)))) -∗ wpc (F := F) c Q (loadWOp k)) by
    rwa [e] at h
  unfold wPts
  exact wp_load 𝒱₀ (c : Thread nD τ) none Set.univ (m := wM) (Finset.subset_univ _)

/-! ## The loops -/

set_option maxRecDepth 8000 in
/-- One forwarding hop, everything else still owed being of the same or a later step. -/
theorem wp_hop (p : Fin 7) (t : Fin 4) (hu : Used (p.succ, t)) (l : List Slot) (hl : ∀ h ∈ l, p.val < h.1.val) (k : P F PUnit) :
    iprop(records m K ∗ partPts m c ∗ slotAny (F := F) sM c (p.succ, t) ∗ sendR (F := F) c (p.succ, t) ∗ recvR (F := F) c (p.castSucc, t) ∗ owesX c (oweL c ((p.succ, t) :: l)))
      ⊢ iprop(((partPts m c ∗ sentR (F := F) c (p.succ, t) ∗ rcvdR (F := F) c (p.castSucc, t) ∗ owesX c (oweL c l)) -∗ wpc (F := F) c Q k)
        -∗ wpc (F := F) c Q (hopP c p t k)) := by
  unfold hopP sendR recvR sentR rcvdR
  iintro ⟨#HR, Hp, Hs, ⟨Hd, Ht1, Ht2⟩, ⟨Hc, Ha⟩, HO⟩ Hk
  iapply (wp_waitRecv m K c Q p.castSucc t (Or.inl p.isLt) ((p.succ, t) :: l) (fun h hh => by
    rcases List.mem_cons.mp hh with rfl | hh
    · exact Nat.lt_succ_self _
    · exact hl h hh)) $$ [Hc Ha HO]
  · isplitr; · iexact HR
    isplitl [Hc]; · iexact Hc
    isplitl [Ha]; · iexact Ha
    iexact HO
  iintro ⟨Ha, Hv, HO⟩
  iapply (wp_loadSlot c Q vM p.castSucc t _ _) $$ Hv; iintro Hv
  iapply (wp_loadPart m c Q _ _ _) $$ Hp; iintro Hp
  iapply (wp_loadSlotAny c Q sM p.succ t _) $$ Hs; iintro Hs
  iapply (wp_storeSlot c Q p.succ t _ _) $$ Hs; iintro Hs
  iapply (wp_start m K c Q p.succ t hu (oweL c l) _) $$ [Hs Hd HO Ht1 Ht2]
  · isplitr; · iexact HR
    isplitl [Hs]; · rw [sndV_succ]; iexact Hs
    isplitl [Hd]; · iexact Hd
    isplitl [HO]; · iexact HO
    isplitl [Ht1]; · iexact Ht1
    iexact Ht2
  iintro ⟨Hc, HO⟩
  iapply Hk
  isplitl [Hp]; · iexact Hp
  isplitl [Hc]; · iexact Hc
  isplitr [HO]
  · isplitl [Ha]; · iexact Ha
    iapply (slotAny_of_pts vM c (p.castSucc, t) _); iexact Hv
  iexact HO

/-- The forwarding hops, in an order that never goes back a step. -/
theorem wp_hops (l : List (Fin 7 × Fin 4)) (hu : ∀ h ∈ l, Used (tgtS h)) (hs : l.Pairwise (fun a b => a.1 ≤ b.1)) (k : P F PUnit) :
    iprop(records m K ∗ partPts m c ∗ sepL l (fun h => slotAny (F := F) sM c (tgtS h)) ∗ sepL l (fun h => sendR (F := F) c (tgtS h))
        ∗ sepL l (fun h => recvR (F := F) c (srcS h)) ∗ owesX c (oweL c (l.map tgtS)))
      ⊢ iprop(((partPts m c ∗ sepL l (fun h => sentR (F := F) c (tgtS h)) ∗ sepL l (fun h => rcvdR (F := F) c (srcS h)) ∗ owesX c 0) -∗ wpc (F := F) c Q k)
        -∗ wpc (F := F) c Q (hopsP c l k)) := by
  induction l generalizing k with
  | nil =>
    iintro ⟨#HR, Hp, -, -, -, HO⟩ Hk
    unfold hopsP
    iapply Hk
    isplitl [Hp]; · iexact Hp
    isplitr; · rw [sepL_nil]; iempintro
    isplitr; · rw [sepL_nil]; iempintro
    iexact HO
  | cons h l ih =>
    rw [List.pairwise_cons] at hs
    rw [sepL_cons, sepL_cons, sepL_cons, sepL_cons, sepL_cons, List.map_cons]
    unfold hopsP
    iintro ⟨#HR, Hp, ⟨Hs, Hss⟩, ⟨Hd, Hds⟩, ⟨Hr, Hrs⟩, HO⟩ Hk
    iapply (wp_hop m K c Q h.1 h.2 (hu h List.mem_cons_self) (l.map tgtS) (fun k hk => by
      obtain ⟨b, hb, rfl⟩ := List.mem_map.mp hk
      exact Nat.lt_succ_of_le (hs.1 b hb))) $$ [Hp Hs Hd Hr HO]
    · isplitr; · iexact HR
      isplitl [Hp]; · iexact Hp
      isplitl [Hs]; · iexact Hs
      isplitl [Hd]; · iexact Hd
      isplitl [Hr]; · iexact Hr
      iexact HO
    iintro ⟨Hp, Hse, Hrc, HO⟩
    iapply (ih (fun b hb => hu b (List.mem_cons_of_mem _ hb)) hs.2 k) $$ [Hp Hss Hds Hrs HO]
    · isplitr; · iexact HR
      isplitl [Hp]; · iexact Hp
      isplitl [Hss]; · iexact Hss
      isplitl [Hds]; · iexact Hds
      isplitl [Hrs]; · iexact Hrs
      iexact HO
    iintro ⟨Hp, Hse', Hrc', HO⟩
    iapply Hk
    isplitl [Hp]; · iexact Hp
    isplitl [Hse Hse']
    · isplitl [Hse]; · iexact Hse
      iexact Hse'
    isplitl [Hrc Hrc']
    · isplitl [Hrc]; · iexact Hrc
      iexact Hrc'
    iexact HO

/-- The copies of a list of slots, started one after the other. -/
def startsP (d : Dev nD) : List Slot → P F PUnit → P F PUnit
  | [], k => k
  | h :: l, k => startOp d h.1 h.2 fun _ => startsP d l k

theorem wp_starts (l l' : List Slot) (hu : ∀ h ∈ l, Used h) (k : P F PUnit) :
    iprop(records m K ∗ sepL l (fun h => slotPts sM c h (sndV m h c)) ∗ sepL l (sendR (F := F) c) ∗ owesX c (oweL c (l ++ l')))
      ⊢ iprop(((sepL l (sentR (F := F) c) ∗ owesX c (oweL c l')) -∗ wpc (F := F) c Q k) -∗ wpc (F := F) c Q (startsP c l k)) := by
  induction l generalizing k with
  | nil =>
    iintro ⟨#HR, -, -, HO⟩ Hk
    unfold startsP
    iapply Hk
    isplitr; · rw [sepL_nil]; iempintro
    iexact HO
  | cons h l ih =>
    rw [sepL_cons, sepL_cons, sepL_cons, List.cons_append]
    unfold startsP
    iintro ⟨#HR, ⟨Hs, Hss⟩, ⟨Hd, Hds⟩, HO⟩ Hk
    unfold sendR
    icases Hd with ⟨Hd, Ht1, Ht2⟩
    iapply (wp_start m K c Q h.1 h.2 (hu h List.mem_cons_self) (oweL c (l ++ l')) _) $$ [Hs Hd HO Ht1 Ht2]
    · isplitr; · iexact HR
      isplitl [Hs]; · iexact Hs
      isplitl [Hd]; · iexact Hd
      isplitl [HO]; · iexact HO
      isplitl [Ht1]; · iexact Ht1
      iexact Ht2
    iintro ⟨Hc, HO⟩
    iapply (ih (fun b hb => hu b (List.mem_cons_of_mem _ hb)) k) $$ [Hss Hds HO]
    · isplitr; · iexact HR
      isplitl [Hss]; · iexact Hss
      isplitl [Hds]; · unfold sendR; iexact Hds
      iexact HO
    iintro ⟨Hcs, HO⟩
    iapply Hk
    isplitr [HO]
    · isplitl [Hc]; · unfold sentR; iexact Hc
      iexact Hcs
    iexact HO

/-- The send waits. -/
theorem wp_waits (l : List Slot) (hu : ∀ h ∈ l, Used h) :
    iprop(records m K ∗ sepL l (sentR (F := F) c) ∗ sepL l (fun h => atPos ER (sndC c h) 0 ∅ 0) ∗ owesX c 0)
      ⊢ iprop(((sepL l (doneR (F := F) c) ∗ owesX c 0) -∗ |={Set.univ}=> Q ⟨⟩) -∗ wpc (F := F) c Q (waitsP l)) := by
  induction l with
  | nil =>
    iintro ⟨#HR, -, -, HO⟩ Hk
    unfold waitsP wpc
    rw [wp_ret]
    iapply Hk
    isplitr; · rw [sepL_nil]; iempintro
    iexact HO
  | cons h l ih =>
    rw [sepL_cons, sepL_cons, sepL_cons]
    unfold waitsP
    iintro ⟨#HR, ⟨Hc, Hcs⟩, ⟨Ha, Has⟩, HO⟩ Hk
    iapply (wp_waitSend m K c Q h.1 h.2 (hu h List.mem_cons_self) _) $$ [Hc Ha HO]
    · isplitr; · iexact HR
      isplitl [Hc]; · unfold sentR; iexact Hc
      isplitl [Ha]; · iexact Ha
      iexact HO
    iintro ⟨Ha, Hs, HO⟩
    iapply (ih (fun b hb => hu b (List.mem_cons_of_mem _ hb))) $$ [Hcs Has HO]
    · isplitr; · iexact HR
      isplitl [Hcs]; · iexact Hcs
      isplitl [Has]; · iexact Has
      iexact HO
    iintro ⟨Hds, HO⟩
    iapply Hk
    isplitr [HO]
    · isplitl [Ha Hs]
      · unfold doneR
        isplitl [Ha]; · iexact Ha
        iexact Hs
      iexact Hds
    iexact HO

end Cert.RingProof

end
-- ==== Proof.Exec.lean ====
/-
The three parts of the body put together: from a device's share of the ring's resources to its result.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- The left and the right half of a device's result: the sums that arrived from both sides and its own block, through the
    epilogue. -/
def outL (c : Dev nD) : FVec F S128x1024 .f32 :=
  k0_pay50 (rcvV m (7, 0) c) (rcvV m (6, 3) c) (chunkAt m c (k0_off4 c) (k0_off4_inb c))
def outR (c : Dev nD) : FVec F S128x1024 .f32 :=
  k0_pay50 (rcvV m (6, 1) c) (rcvV m (7, 2) c) (chunkAt m c (k0_off5 c) (k0_off5_inb c))

/-- The place of an element of the result in its half. -/
def leftIx (i : S128x2048.Idx) (h : (i 1).val < 1024) : S128x1024.Idx := Fin.cons (i 0) (Fin.cons ⟨(i 1).val, h⟩ finZeroElim)
def rightIx (i : S128x2048.Idx) : S128x1024.Idx :=
  Fin.cons (i 0) (Fin.cons ⟨(i 1).val - 1024, by have h : (i 1).val < 2048 := (i 1).isLt; show _ < 1024; omega⟩ finZeroElim)

/-- The result. -/
def outAt (c : Dev nD) : (cc0_stg2_0 : Ref sig .tc).ty.Contents (Elt F) := fun i =>
  if h : (i 1).val < 1024 then outL m c (leftIx i h) else outR m c (rightIx i)

abbrev rL : Rect S128x2048 := Rect.unit (s := S128x2048) ![0, 0] S128x1024.size inb_S128x2048_S128x1024_0_0
abbrev rR : Rect S128x2048 := Rect.unit (s := S128x2048) ![0, 1024] S128x1024.size inb_S128x2048_S128x1024_0_1024

/-- The two stores fill the whole result. -/
theorem write_halves (c : Dev nD) (f : (cc0_stg2_0 : Ref sig .tc).ty.Contents (Elt F)) :
    ((oM : Memref sig .tc .vmem S128x2048 .f32).access rR : View sig .tc _ _ _).write (Elt F)
      (((oM : Memref sig .tc .vmem S128x2048 .f32).access rL : View sig .tc _ _ _).write (Elt F) f (outL m c) Finset.univ) (outR m c) Finset.univ = outAt m c := by
  funext i
  by_cases h : (i 1).val < 1024
  · have hi : ((oM : Memref sig .tc .vmem S128x2048 .f32).access rL : View sig .tc _ _ _).emb (leftIx i h) = i := by
      funext a; apply Fin.ext
      fin_cases a
      · show 0 + 1 * (i 0).val = _; rw [Nat.zero_add, Nat.one_mul]; rfl
      · show 0 + 1 * (i 1).val = _; rw [Nat.zero_add, Nat.one_mul]; rfl
    rw [View.write_of_not_mem]
    · conv_lhs => rw [← hi]
      rw [View.write_emb_of_mem _ _ (Finset.mem_univ _)]
      unfold outAt; rw [dif_pos h]; rfl
    · intro hm
      rw [View.setOn, Finset.mem_map] at hm
      obtain ⟨x, -, hx⟩ := hm
      have h1 := congrArg (fun j : S128x2048.Idx => (j 1).val) hx
      change 1024 + 1 * (x 1).val = (i 1).val at h1
      omega
  · have hi : ((oM : Memref sig .tc .vmem S128x2048 .f32).access rR : View sig .tc _ _ _).emb (rightIx i) = i := by
      funext a; apply Fin.ext
      fin_cases a
      · show 0 + 1 * (i 0).val = _; rw [Nat.zero_add, Nat.one_mul]; rfl
      · show 1024 + 1 * ((i 1).val - 1024) = (i 1).val; omega
    conv_lhs => rw [← hi]
    rw [View.write_emb_of_mem _ _ (Finset.mem_univ _)]
    unfold outAt; rw [dif_neg h]; rfl

/-! ## The three parts -/

variable (K : Dev nD × CI → ℕ)
variable (c : Dev nD) (Q : PUnit.{1} → sProp (MT nD τ sig Unit (Elt F) ℕ UU ℕ))

/-- The result's buffer. -/
def oPts (f : (cc0_stg2_0 : Ref sig .tc).ty.Contents (Elt F)) : sProp 𝕄 := (((c : Thread nD τ).loc cc0_stg2_0) ↦{fullShare} f)

/-- A wait for an arrival with nothing owed any more. -/
theorem wp_waitLast (s : Fin 8) (t : Fin 4) (hu : Used (s, t)) (k : PUnit → P F PUnit) :
    iprop(records m K ∗ recvR (F := F) c (s, t) ∗ owesX c 0)
      ⊢ iprop(((atPos ER (rcvC c (s, t)) 1 ∅ 0 ∗ slotPts vM c (s, t) (rcvV m (s, t) c) ∗ owesX c 0) -∗ wpc (F := F) c Q (k ⟨⟩))
        -∗ wpc (F := F) c Q (waitRecvOp s t k)) := by
  have h := wp_waitRecv m K c Q s t hu [] (fun h hh => by cases hh) k
  unfold recvR
  iintro ⟨#HR, ⟨Hc, Ha⟩, HO⟩ Hk
  iapply h $$ [Hc Ha HO]
  · isplitr; · iexact HR
    isplitl [Hc]; · iexact Hc
    isplitl [Ha]; · iexact Ha
    iexact HO
  iexact Hk

/-- The last arrivals, the epilogue of both halves, the send waits. -/
theorem wp_last :
    iprop(records m K ∗ partPts m c ∗ sepL lasts (recvR (F := F) c) ∗ owesX c 0 ∗ (∃ f, oPts c f)
        ∗ sepL sends (sentR (F := F) c) ∗ sepL sends (fun h => atPos ER (sndC c h) 0 ∅ 0))
      ⊢ iprop(((partPts m c ∗ sepL lasts (rcvdR (F := F) c) ∗ sepL sends (doneR (F := F) c) ∗ owesX c 0 ∗ oPts c (outAt m c)) -∗ |={Set.univ}=> Q ⟨⟩)
        -∗ wpc (F := F) c Q (lastP c)) := by
  unfold lastP lasts oPts
  rw [sepL_cons, sepL_cons, sepL_cons, sepL_cons, sepL_nil, sepL_cons, sepL_cons, sepL_cons, sepL_cons, sepL_nil]
  iintro ⟨#HR, Hp, ⟨H70, H63, H61, H72, -⟩, HO, ⟨%f, Ho⟩, Hse, Has⟩ Hk
  iapply (wp_waitLast m K c Q 7 0 (by decide) _) $$ [H70 HO]
  · isplitr; · iexact HR
    isplitl [H70] <;> iassumption
  iintro ⟨Ha70, Hv70, HO⟩
  iapply (wp_waitLast m K c Q 6 3 (by decide) _) $$ [H63 HO]
  · isplitr; · iexact HR
    isplitl [H63] <;> iassumption
  iintro ⟨Ha63, Hv63, HO⟩
  iapply (wp_loadSlot c Q vM 7 0 _ _) $$ Hv70; iintro Hv70
  iapply (wp_loadSlot c Q vM 6 3 _ _) $$ Hv63; iintro Hv63
  iapply (wp_loadPart m c Q _ _ _) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := rL) (Mk := Finset.univ) (Finset.subset_univ _)) $$ Ho; iintro Ho
  iapply (wp_waitLast m K c Q 6 1 (by decide) _) $$ [H61 HO]
  · isplitr; · iexact HR
    isplitl [H61] <;> iassumption
  iintro ⟨Ha61, Hv61, HO⟩
  iapply (wp_waitLast m K c Q 7 2 (by decide) _) $$ [H72 HO]
  · isplitr; · iexact HR
    isplitl [H72] <;> iassumption
  iintro ⟨Ha72, Hv72, HO⟩
  iapply (wp_loadSlot c Q vM 6 1 _ _) $$ Hv61; iintro Hv61
  iapply (wp_loadSlot c Q vM 7 2 _ _) $$ Hv72; iintro Hv72
  iapply (wp_loadPart m c Q _ _ _) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := rR) (Mk := Finset.univ) (Finset.subset_univ _)) $$ Ho; iintro Ho
  have e := write_halves m c f
  unfold outL outR at e
  rw [e]
  iapply (wp_waits m K c Q sends sends_used) $$ [Hse Has HO]
  · isplitr; · iexact HR
    isplitl [Hse]; · iexact Hse
    isplitl [Has]; · iexact Has
    iexact HO
  iintro ⟨Hd, HO⟩
  iapply Hk
  isplitl [Hp]; · iexact Hp
  isplitl [Ha70 Hv70 Ha63 Hv63 Ha61 Hv61 Ha72 Hv72]
  · unfold rcvdR
    isplitl [Ha70 Hv70]
    · isplitl [Ha70]; · iexact Ha70
      iapply (slotAny_of_pts vM c (7, 0) _); iexact Hv70
    isplitl [Ha63 Hv63]
    · isplitl [Ha63]; · iexact Ha63
      iapply (slotAny_of_pts vM c (6, 3) _); iexact Hv63
    isplitl [Ha61 Hv61]
    · isplitl [Ha61]; · iexact Ha61
      iapply (slotAny_of_pts vM c (6, 1) _); iexact Hv61
    isplitl [Ha72 Hv72]
    · isplitl [Ha72]; · iexact Ha72
      iapply (slotAny_of_pts vM c (7, 2) _); iexact Hv72
    iempintro
  isplitl [Hd]; · iexact Hd
  isplitl [HO]; · iexact HO
  iexact Ho

omit [FloatOps F] in
theorem read_x_whole (f : (cc0_stg0_0 : Ref sig .tc).ty.Contents (Elt F)) :
    (xM : Memref sig .tc .vmem S2048x128 .bf16).view.readAt (Elt F) (Rect.unit (s := S2048x128) ![0, 0] S2048x128.size inb_S2048x128_S2048x128_0_0).toLoadRect f = f :=
  Memref.readAt_unit_zero (Elt F) cc0_stg0_0 hz _ f
omit [FloatOps F] in
theorem write_part (f w : (cc0_scratch0 : Ref sig .tc).ty.Contents (Elt F)) :
    ((pM : Memref sig .tc .vmem S2048x2048 .bf16).access (Rect.unit (s := S2048x2048) ![0, 0] S2048x2048.size inb_S2048x2048_S2048x2048_0_0) :
      View sig .tc _ _ _).write (Elt F) f w Finset.univ = w :=
  Memref.write_access_unit_zero_univ (Elt F) cc0_scratch0 hz _ f w

/-- The device's own partial products, the hops and the last part. -/
theorem wp_mid :
    iprop(records m K ∗ xPts m c ∗ wPts m c ∗ (∃ f, (((c : Thread nD τ).loc cc0_scratch0) ↦{fullShare} f))
        ∗ sepL hops (fun h => slotAny (F := F) sM c (tgtS h)) ∗ sepL hops (fun h => sendR (F := F) c (tgtS h))
        ∗ sepL (hops.map srcS ++ lasts) (recvR (F := F) c) ∗ owesX c (oweL c (hops.map tgtS)) ∗ (∃ f, oPts c f)
        ∗ sepL starts (sentR (F := F) c) ∗ sepL sends (fun h => atPos ER (sndC c h) 0 ∅ 0))
      ⊢ iprop(((xPts m c ∗ wPts m c ∗ partPts m c ∗ sepL sends (rcvdR (F := F) c) ∗ sepL sends (doneR (F := F) c) ∗ owesX c 0 ∗ oPts c (outAt m c)) -∗ |={Set.univ}=> Q ⟨⟩)
        -∗ wpc (F := F) c Q (midP c)) := by
  unfold midP
  iintro ⟨#HR, Hx, Hw, ⟨%f, Hp⟩, Hs, Hd, Hr, HO, Ho, Hse, Has⟩ Hk
  unfold xPts
  iapply (wp_load 𝒱₀ (c : Thread nD τ) none Set.univ (m := xM) (Finset.subset_univ _)) $$ Hx; iintro Hx
  rw [read_x_whole]
  iapply (wp_loadW m c Q _) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := Rect.unit (s := S2048x2048) ![0, 0] S2048x2048.size inb_S2048x2048_S2048x2048_0_0)
    (Mk := Finset.univ) (Finset.subset_univ _)) $$ Hp; iintro Hp
  rw [write_part]
  ihave Hr' := (sepL_append (hops.map srcS) lasts (recvR (F := F) c)).1 $$ Hr
  icases Hr' with ⟨Hr, Hl⟩
  ihave Hr' := (Entails.of_eq (sepL_map srcS hops (recvR (F := F) c))) $$ Hr
  iapply (wp_hops m K c Q hops hops_used hops_sorted (lastP c)) $$ [Hp Hs Hd Hr' HO]
  · isplitr; · iexact HR
    isplitl [Hp]; · unfold partPts partAt; iexact Hp
    isplitl [Hs]; · iexact Hs
    isplitl [Hd]; · iexact Hd
    isplitl [Hr']; · iexact Hr'
    iexact HO
  iintro ⟨Hp, Hse', Hrc, HO⟩
  iapply (wp_last m K c Q) $$ [Hp Hl HO Ho Hse Hse' Has]
  · isplitr; · iexact HR
    isplitl [Hp]; · iexact Hp
    isplitl [Hl]; · iexact Hl
    isplitl [HO]; · iexact HO
    isplitl [Ho]; · iexact Ho
    isplitl [Hse Hse']
    · rw [sepL_perm sends sentL sends_nodup sentL_nodup sends_sent]
      iapply (sepL_append starts (hops.map tgtS) (sentR (F := F) c)).2
      isplitl [Hse]; · iexact Hse
      rw [sepL_map]; iexact Hse'
    iexact Has
  iintro ⟨Hp, Hl, Hd, HO, Ho⟩
  iapply Hk
  isplitl [Hx]; · iexact Hx
  isplitl [Hw]; · iexact Hw
  isplitl [Hp]; · iexact Hp
  isplitl [Hrc Hl]
  · rw [sepL_perm sends _ sends_nodup recvL_nodup sends_recv]
    iapply (sepL_append (hops.map srcS) lasts (rcvdR (F := F) c)).2
    isplitl [Hrc]; · rw [sepL_map]; iexact Hrc
    iexact Hl
  isplitl [Hd]; · iexact Hd
  isplitl [HO]; · iexact HO
  iexact Ho

omit [FloatOps F] in
/-- What holds of every slot sent holds of the first copies and of the hops. -/
theorem split_sent (Φ : Slot → sProp 𝕄) : sepL sends Φ ⊢ iprop(sepL starts Φ ∗ sepL hops fun h => Φ (tgtS h)) := by
  rw [sepL_perm sends sentL sends_nodup sentL_nodup sends_sent, ← sepL_map tgtS hops Φ]
  exact (sepL_append starts (hops.map tgtS) Φ).1

/-- What a device owes at the start: every copy it sends, and a unit to each neighbour's barrier. -/
def O₀ (c : Dev nD) : CellTallies nD τ sig Unit :=
  oweL c (starts ++ hops.map tgtS) + tallyAt (barC (rgt c)) () 1 + tallyAt (barC (lft c)) () 1

/-- The tokens of one slot: of the copy's completion at the sender and at the receiver. -/
def toksR (h : Slot) : sProp 𝕄 := iprop(dutyTok ER (sndC c h) 0 false ∗ dutyTok ER (rcvC (dstD h.2 c) h) 0 false)

/-- What the body takes and what it leaves, over the used slots. -/
def bodyIn : sProp 𝕄 :=
  iprop(xPts m c ∗ wPts m c ∗ (∃ f, oPts c f) ∗ (∃ f, (((c : Thread nD τ).loc cc0_scratch0) ↦{fullShare} f))
    ∗ owesX c (O₀ c) ∗ cred (tallyAt (barC c) () 2) ∗ atPos ER (barC c) 0 ∅ 0
    ∗ dutyTok ER (barC (lft c)) 0 true ∗ dutyTok ER (barC (rgt c)) 0 false
    ∗ sepL sends (slotAny (F := F) sM c) ∗ sepL sends (slotAny (F := F) vM c) ∗ sepL sends (toksR (F := F) c)
    ∗ sepL sends (recvR (F := F) c) ∗ sepL sends (fun h => atPos ER (sndC c h) 0 ∅ 0))
def bodyOut : sProp 𝕄 :=
  iprop(xPts m c ∗ wPts m c ∗ oPts c (outAt m c) ∗ partPts m c ∗ owesX c 0 ∗ atPos ER (barC c) 1 ∅ 0
    ∗ sepL sends (rcvdR (F := F) c) ∗ sepL sends (doneR (F := F) c))

theorem O₀_pos : ∀ h ∈ starts ++ hops.map tgtS, lvS (.reg barrier0) < 2 + h.1.val := fun h _ => Nat.lt_of_lt_of_le (Nat.lt_succ_self 1) (Nat.le_add_right 2 _)

set_option maxRecDepth 8000 in
theorem mayWait_bar : records m K ⊢ MayWait (c : Thread nD τ) (.reg barrier0) () (oweL c (starts ++ hops.map tgtS)) :=
  BI.Entails.trans (Q := (levAts L lv : sProp 𝕄)) (by exact levs_at m K) (by exact mayWait_oweL (F := F) c (.reg barrier0) _ O₀_pos)

set_option maxHeartbeats 800000 in
set_option maxRecDepth 16000 in
/-- The whole body. -/
theorem wp_flat : iprop(records m K ∗ bodyIn m c) ⊢ iprop((bodyOut m c -∗ |={Set.univ}=> Q ⟨⟩) -∗ wpc (F := F) c Q flat) := by
  unfold flat wpc
  rw [wp_deviceId]
  show _ ⊢ iprop((bodyOut m c -∗ |={Set.univ}=> Q ⟨⟩) -∗ wpc (F := F) c Q (firstP c))
  unfold bodyIn firstP owesX
  iintro ⟨#HR, Hx, Hw, Ho, Hp, ⟨%W, HO⟩, HcB, HaB, Ht1, Ht2, Hs, Hv, Ht, Hr, Has⟩ Hk
  iapply (wp_loadX m c Q _ _ _) $$ Hx; iintro Hx
  iapply (wp_loadW m c Q _) $$ Hw; iintro Hw
  iapply (wp_loadX m c Q _ _ _) $$ Hx; iintro Hx
  iapply (wp_loadW m c Q _) $$ Hw; iintro Hw
  iapply (wp_loadX m c Q _ _ _) $$ Hx; iintro Hx
  iapply (wp_loadW m c Q _) $$ Hw; iintro Hw
  -- the four first slots
  ihave Hs2 := (split_sent (slotAny (F := F) sM c)) $$ Hs
  icases Hs2 with ⟨Hs, Hsh'⟩
  ihave Hs1 := (Entails.of_eq (show sepL starts (slotAny (F := F) sM c)
    = iprop(slotAny (F := F) sM c (0, 0) ∗ slotAny (F := F) sM c (0, 2) ∗ slotAny (F := F) sM c (0, 1) ∗ slotAny (F := F) sM c (0, 3) ∗ emp) from rfl)) $$ Hs
  icases Hs1 with ⟨H00, H02, H01, H03, -⟩
  iapply (wp_loadSlotAny c Q sM 0 0 _) $$ H00; iintro H00
  iapply (wp_storeSlot c Q 0 0 _ _) $$ H00; iintro H00
  iapply (wp_loadSlotAny c Q sM 0 2 _) $$ H02; iintro H02
  iapply (wp_storeSlot c Q 0 2 _ _) $$ H02; iintro H02
  iapply (wp_loadSlotAny c Q sM 0 1 _) $$ H01; iintro H01
  iapply (wp_storeSlot c Q 0 1 _ _) $$ H01; iintro H01
  iapply (wp_loadSlotAny c Q sM 0 3 _) $$ H03; iintro H03
  iapply (wp_storeSlot c Q 0 3 _ _) $$ H03; iintro H03
  -- the handshake
  ihave Hv1 := (Entails.of_eq (congrArg (fun l => sepL l (slotAny (F := F) vM c)) sends_split)) $$ Hv
  ihave Hv2 := (sepL_append sendsR sendsL (slotAny (F := F) vM c)).1 $$ Hv1
  icases Hv2 with ⟨HvR, HvL⟩
  iapply (Rounds.wp_signal 𝒱₀ ER (ringRd m) (c : Thread nD τ) none (dst := (lft c : Thread nD τ)) (κ := K (lft c, none))
      (d := true) (by rw [duties_bar]; exact Finset.mem_univ _) rfl ()
      (oweL c (starts ++ hops.map tgtS) + tallyAt (barC (rgt c)) () 1) rfl) $$ [HO Ht1 HvR]
  · isplitr; · iapply (inv_at m K (lft c, none)); iexact HR
    isplitl [HO]; · iexact HO
    isplitl [Ht1]; · iexact Ht1
    isplitl [HvR]; · rw [payload_bar]; iapply (give_left c); iexact HvR
    iapply (reached_at m K (lft c, none)); iexact HR
  iintro HO
  iapply (Rounds.wp_signal 𝒱₀ ER (ringRd m) (c : Thread nD τ) none (dst := (rgt c : Thread nD τ)) (κ := K (rgt c, none))
      (d := false) (by rw [duties_bar]; exact Finset.mem_univ _) rfl ()
      (oweL c (starts ++ hops.map tgtS)) rfl) $$ [HO Ht2 HvL]
  · isplitr; · iapply (inv_at m K (rgt c, none)); iexact HR
    isplitl [HO]; · iexact HO
    isplitl [Ht2]; · iexact Ht2
    isplitl [HvL]; · rw [payload_bar]; iapply (give_right c); iexact HvL
    iapply (reached_at m K (rgt c, none)); iexact HR
  iintro HO
  iapply (Rounds.wp_wait_rest_token 𝒱₀ ER (ringRd m) (c : Thread nD τ) none (κ := K (c, none))
      (wpE_semWait_eq 𝒱₀ (c : Thread nD τ) none Set.univ) (Set.mem_univ _) () (O := oweL c (starts ++ hops.map tgtS)) (W := W) (R := 0) (m := 0) (T := ∅)
      (by rw [expect_bar])) $$ [HcB HO HaB]
  · isplitr; · iapply (inv_at m K (c, none)); iexact HR
    isplitl [HcB]; · iexact HcB
    isplitl [HO]; · iexact HO
    isplitr; · iapply (mayWait_bar m K c); iexact HR
    iexact HaB
  iintro ⟨HO, HaB, -, Hpay⟩
  ihave Hp1 := (Entails.of_eq (rest_bar m c)) $$ Hpay
  ihave Hd := (barPay_get c) $$ Hp1
  -- the resources of every copy
  ihave Hsd : sepL sends (sendR (F := F) c) $$ [Hd Ht]
  · iapply (sepL_sep sends (fun h => slotAny (F := F) vM (dstD h.2 c) h) (toksR (F := F) c)).2
    isplitl [Hd] <;> iassumption
  ihave Hsd2 := (split_sent (sendR (F := F) c)) $$ Hsd
  icases Hsd2 with ⟨Hsd, Hsdh'⟩
  iapply (wp_starts m K c Q starts (hops.map tgtS) starts_used (midP c)) $$ [H00 H02 H01 H03 Hsd HO]
  · isplitr; · iexact HR
    isplitl [H00 H02 H01 H03]
    · unfold starts
      rw [sepL_cons, sepL_cons, sepL_cons, sepL_cons, sepL_nil]
      isplitl [H00]; · iexact H00
      isplitl [H02]; · iexact H02
      isplitl [H01]; · iexact H01
      isplitl [H03]; · iexact H03
      iempintro
    isplitl [Hsd]; · iexact Hsd
    unfold owesX; iexists _; iexact HO
  iintro ⟨Hse, HO⟩
  iapply (wp_mid m K c Q) $$ [Hx Hw Hp Hsh' Hsdh' Hr HO Ho Hse Has]
  · isplitr; · iexact HR
    isplitl [Hx]; · iexact Hx
    isplitl [Hw]; · iexact Hw
    isplitl [Hp]; · iexact Hp
    isplitl [Hsh']; · iexact Hsh'
    isplitl [Hsdh']; · iexact Hsdh'
    isplitl [Hr]; · rw [← sepL_perm sends _ sends_nodup recvL_nodup sends_recv]; iexact Hr
    isplitl [HO]; · iexact HO
    isplitl [Ho]; · iexact Ho
    isplitl [Hse]; · iexact Hse
    iexact Has
  iintro ⟨Hx, Hw, Hp, Hr, Hd, HO, Ho⟩
  iapply Hk
  unfold bodyOut
  isplitl [Hx]; · iexact Hx
  isplitl [Hw]; · iexact Hw
  isplitl [Ho]; · iexact Ho
  isplitl [Hp]; · iexact Hp
  isplitl [HO]; · iexact HO
  isplitl [HaB]; · iexact HaB
  isplitl [Hr]; · iexact Hr
  iexact Hd

end Cert.RingProof

end
-- ==== Proof.Slots.lean ====
/-
The arrays of slots cut into slots and put together again, and a device's cells listed.
-/
module

public import proofs.«01_k».proof.Proof.Exec

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

omit [FloatOps F] in
/-- A buffer covered by disjoint parts is its parts, whatever they hold; -/
theorem split_parts (ℓ : Loc nD τ sig) (P : Slot → Finset (Idx ℓ)) (hd : ∀ h k, h ≠ k → Disjoint (P h) (P k)) (hc : Finset.univ.biUnion P = Finset.univ) :
    iprop(∃ f : Buf (Elt F) ℓ, ℓ ↦{fullShare} f) ⊢ (bigSep Finset.univ fun h => iprop(∃ f : Buf (Elt F) ℓ, ℓ ↦[P h]{fullShare} f) : sProp 𝕄) := by
  have e (f : Buf (Elt F) ℓ) : (bigSep Finset.univ fun h => (ℓ ↦[P h]{fullShare} f : sProp 𝕄)) ⊢ bigSep Finset.univ fun h => iprop(∃ f : Buf (Elt F) ℓ, ℓ ↦[P h]{fullShare} f) :=
    bigSep_mono fun h _ => by
      show (ℓ ↦[P h]{fullShare} f : sProp 𝕄) ⊢ iprop(∃ f : Buf (Elt F) ℓ, ℓ ↦[P h]{fullShare} f)
      iintro H; iexists f; iexact H
  iintro ⟨%f, H⟩
  ihave H' := (Entails.of_eq ((congrArg (fun S : Finset (Idx ℓ) => (ℓ ↦[S]{fullShare} f : sProp 𝕄)) hc.symm).trans
    (pointsTo_biUnion Finset.univ P fun h _ k _ hne => hd h k hne))) $$ H
  iapply (e f)
  iexact H'

omit [FloatOps F] in
/-- and the parts, whatever they hold, are the buffer. -/
theorem join_parts (ℓ : Loc nD τ sig) (hn : Nonempty (Buf (Elt F) ℓ)) (P : Slot → Finset (Idx ℓ)) (hd : ∀ h k, h ≠ k → Disjoint (P h) (P k)) (hc : Finset.univ.biUnion P = Finset.univ) :
    (bigSep Finset.univ fun h => iprop(∃ f : Buf (Elt F) ℓ, ℓ ↦[P h]{fullShare} f) : sProp 𝕄) ⊢ iprop(∃ f : Buf (Elt F) ℓ, ℓ ↦{fullShare} f) := by
  obtain ⟨f₀⟩ := hn
  haveI : Nonempty (Buf (Elt F) ℓ) := ⟨f₀⟩
  iintro H
  ihave H1 := (bigSep_exists_pi Finset.univ (fun (h : Slot) (f : Buf (Elt F) ℓ) => (ℓ ↦[P h]{fullShare} f : sProp 𝕄))) $$ H
  icases H1 with ⟨%fs, H⟩
  ihave H1 := (pointsTo_biUnion_join Finset.univ P fs f₀ fun h _ k _ hne => hd h k hne) $$ H
  icases H1 with ⟨%g, -, H⟩
  iexists g
  rw [hc]
  iexact H

omit [FloatOps F] in
theorem mem_slot (h : Slot) (i : S8x4x1x128x1024.Idx) : i ∈ (slotR h.1 h.2).set ↔ (i 0).val = h.1.val ∧ (i 1).val = h.2.val := by
  rw [Rect.mem_set_unit]
  constructor
  · intro H
    have h0 := H 0; have h1 := H 1
    change h.1.val ≤ (i 0).val ∧ (i 0).val < h.1.val + 1 at h0
    change h.2.val ≤ (i 1).val ∧ (i 1).val < h.2.val + 1 at h1
    omega
  · rintro ⟨h0, h1⟩ a
    have ha := (i a).isLt
    fin_cases a
    · show h.1.val ≤ (i 0).val ∧ (i 0).val < h.1.val + 1; omega
    · show h.2.val ≤ (i 1).val ∧ (i 1).val < h.2.val + 1; omega
    · exact ⟨Nat.zero_le _, by show _ < 0 + 1; rw [Nat.zero_add]; exact ha⟩
    · exact ⟨Nat.zero_le _, by show _ < 0 + 128; rw [Nat.zero_add]; exact ha⟩
    · exact ⟨Nat.zero_le _, by show _ < 0 + 1024; rw [Nat.zero_add]; exact ha⟩

omit [FloatOps F] in
theorem slots_disjoint (h k : Slot) (hne : h ≠ k) : Disjoint (slotR h.1 h.2).set (slotR k.1 k.2).set := by
  rw [Finset.disjoint_left]
  intro i hi hk
  have h1 := (mem_slot h i).mp hi
  have h2 := (mem_slot k i).mp hk
  exact hne (Prod.ext (Fin.ext (h1.1.symm.trans h2.1)) (Fin.ext (h1.2.symm.trans h2.2)))

omit [FloatOps F] in
theorem slots_cover : Finset.univ.biUnion (fun h : Slot => (slotR h.1 h.2).set) = (Finset.univ : Finset S8x4x1x128x1024.Idx) := by
  ext i
  simp only [Finset.mem_biUnion, Finset.mem_univ, true_and, iff_true]
  exact ⟨(i 0, i 1), (mem_slot _ i).mpr ⟨rfl, rfl⟩⟩

omit [FloatOps F] in
theorem set_sM (h : Slot) : (slotM sM h.1 h.2).view.set = (slotR h.1 h.2).set := (slot_set sM h.1 h.2).trans Finset.map_refl
omit [FloatOps F] in
theorem set_vM (h : Slot) : (slotM vM h.1 h.2).view.set = (slotR h.1 h.2).set := (slot_set vM h.1 h.2).trans Finset.map_refl

variable (c : Dev nD)

/-- The arrays of send and of receive slots, holding anything. -/
def sArr : sProp 𝕄 := iprop(∃ f : Buf (Elt F) ((c : Thread nD τ).loc cc0_scratch1), ((c : Thread nD τ).loc cc0_scratch1) ↦{fullShare} f)
def vArr : sProp 𝕄 := iprop(∃ f : Buf (Elt F) ((c : Thread nD τ).loc cc0_scratch2), ((c : Thread nD τ).loc cc0_scratch2) ↦{fullShare} f)

omit [FloatOps F] in
theorem sSlots_eq : (bigSep Finset.univ fun h => slotAny (F := F) sM c h)
    = bigSep Finset.univ fun h : Slot => iprop(∃ f : Buf (Elt F) ((c : Thread nD τ).loc cc0_scratch1), ((c : Thread nD τ).loc cc0_scratch1) ↦[(slotR h.1 h.2).set]{fullShare} f) :=
  bigSep_congr fun h _ => by unfold slotAny; rw [set_sM]
omit [FloatOps F] in
theorem vSlots_eq : (bigSep Finset.univ fun h => slotAny (F := F) vM c h)
    = bigSep Finset.univ fun h : Slot => iprop(∃ f : Buf (Elt F) ((c : Thread nD τ).loc cc0_scratch2), ((c : Thread nD τ).loc cc0_scratch2) ↦[(slotR h.1 h.2).set]{fullShare} f) :=
  bigSep_congr fun h _ => by unfold slotAny; rw [set_vM]

omit [FloatOps F] in
/-- Over all slots: the used ones and the others. -/
theorem all_split (Φ : Slot → sProp 𝕄) : bigSep Finset.univ Φ = iprop(sepL sends Φ ∗ sepL unused Φ) := by
  rw [sepL_univ _ all_nodup all_univ]
  exact BI.equiv_iff.mp ⟨(sepL_append sends unused Φ).1, (sepL_append sends unused Φ).2⟩

theorem split_sArr : sArr (F := F) c ⊢ iprop(sepL sends (slotAny (F := F) sM c) ∗ sepL unused (slotAny (F := F) sM c)) := by
  rw [← all_split, sSlots_eq]
  exact split_parts _ _ slots_disjoint slots_cover
theorem split_vArr : vArr (F := F) c ⊢ iprop(sepL sends (slotAny (F := F) vM c) ∗ sepL unused (slotAny (F := F) vM c)) := by
  rw [← all_split, vSlots_eq]
  exact split_parts _ _ slots_disjoint slots_cover
theorem join_sArr (hn : Nonempty (Buf (Elt F) ((c : Thread nD τ).loc cc0_scratch1))) :
    iprop(sepL sends (slotAny (F := F) sM c) ∗ sepL unused (slotAny (F := F) sM c)) ⊢ sArr (F := F) c := by
  rw [← all_split, sSlots_eq]
  exact join_parts _ hn _ slots_disjoint slots_cover
theorem join_vArr (hn : Nonempty (Buf (Elt F) ((c : Thread nD τ).loc cc0_scratch2))) :
    iprop(sepL sends (slotAny (F := F) vM c) ∗ sepL unused (slotAny (F := F) vM c)) ⊢ vArr (F := F) c := by
  rw [← all_split, vSlots_eq]
  exact join_parts _ hn _ slots_disjoint slots_cover

/-! ## Cells -/

omit [FloatOps F] in
/-- Over a device's cells: its barrier, its send semaphores, its receive semaphores. -/
theorem cells_split (Φ : CI → sProp 𝕄) :
    bigSep Finset.univ Φ = iprop(Φ none ∗ (bigSep Finset.univ fun h : Slot => Φ (some (false, h))) ∗ bigSep Finset.univ fun h : Slot => Φ (some (true, h))) := by
  have e : bigSep Finset.univ Φ = iprop(((bigSep Finset.univ fun h : Slot => Φ (some (false, h))) ∗ bigSep Finset.univ fun h : Slot => Φ (some (true, h))) ∗ Φ none) := by
    rw [bigSep_univ_equiv (Equiv.optionEquivSumPUnit.{0} (Bool × Slot)).symm Φ, bigSep_univ_sum,
      bigSep_univ_prod, bigSep_univ_eq_bigSepL (I := Bool) [false, true] (by decide) (by decide), bigSepL_cons_cons, bigSepL_singleton,
      bigSep_univ_eq_bigSepL (I := PUnit.{1}) [PUnit.unit] (by decide) (by decide), bigSepL_singleton]
    rfl
  rw [e]
  have e1 (A B C : sProp 𝕄) : iprop((B ∗ C) ∗ A) ⊢ iprop(A ∗ B ∗ C) := by
    iintro ⟨⟨H1, H2⟩, H3⟩
    isplitl [H3]; · iexact H3
    isplitl [H1]; · iexact H1
    iexact H2
  have e2 (A B C : sProp 𝕄) : iprop(A ∗ B ∗ C) ⊢ iprop((B ∗ C) ∗ A) := by
    iintro ⟨H3, H1, H2⟩
    isplitr [H3]
    · isplitl [H1]; · iexact H1
      iexact H2
    iexact H3
  exact BI.equiv_iff.mp ⟨e1 _ _ _, e2 _ _ _⟩

variable (m : (ℓ : Loc nD τ sig) → Buf (Elt F) ℓ)
variable (K : Dev nD × CI → ℕ)

/-- The cells of a list of slots close. -/
theorem close_list (b : Bool) (R : ℕ) (l : List Slot) (hR : ∀ h ∈ l, ∀ r, R ≤ r → (ringRd (F := F) m).duties (kcell (c, some (b, h))) r = ∅) :
    iprop(records m K ∗ sepL l (fun h => atPos ER (kcell (c, some (b, h))) R ∅ 0))
      ⊢ (|={Set.univ}=> sepL l (fun h => semVal (kcell (c, some (b, h))) 0) : sProp 𝕄) := by
  induction l with
  | nil =>
    rw [sepL_nil, sepL_nil]
    iintro -
    imodintro; iempintro
  | cons h l ih =>
    rw [sepL_cons, sepL_cons]
    iintro ⟨#HR, Ha, Has⟩
    imod (close_cell m K (c, some (b, h)) R (hR h List.mem_cons_self)) $$ [Ha] with Hz
    · isplitr; · iexact HR
      iexact Ha
    imod (ih fun k hk => hR k (List.mem_cons_of_mem _ hk)) $$ [Has] with Hzs
    · isplitr; · iexact HR
      iexact Has
    imodintro
    isplitl [Hz]; · iexact Hz
    iexact Hzs

/-- An unused slot's semaphores have no duty. -/
theorem unused_duties (b : Bool) : ∀ h ∈ unused, ∀ r, 0 ≤ r → (ringRd (F := F) m).duties (kcell (c, some (b, h))) r = ∅ := by
  intro h hh r _
  rcases Nat.eq_zero_or_pos r with rfl | hr
  · cases b
    · exact (duties_snd m c h).trans (if_neg (unused_not h hh))
    · exact (duties_rcv m c h).trans (if_neg (unused_not h hh))
  · exact duties_later m _ r hr

end Cert.RingProof

end
-- ==== Proof.Launch.lean ====
/-
The kernel on all devices: the proof data of the launch, the body's obligation, the ghost state dealt around the ring, the run.
-/
module

public import proofs.«01_k».proof.Proof.Slots

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation launchCred cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends in -/

abbrev s₀ : MemSt nD τ sig (Elt F) := ⟨m, fun _ => 0, ρ⟩

/-- The tokens of the duties device `c` pays: a unit of each neighbour's barrier, its own sends, the arrivals of its copies. -/
def payToks (c : Dev nD) : sProp 𝕄 :=
  iprop(dutyTok ER (barC (lft c)) 0 true ∗ dutyTok ER (barC (rgt c)) 0 false
    ∗ (bigSep Finset.univ fun h : Slot => dutyTok ER (sndC c h) 0 false) ∗ bigSep Finset.univ fun h : Slot => dutyTok ER (rcvC (dstD h.2 c) h) 0 false)

/-- Its positions at its own cells and those tokens. -/
def linear (c : Dev nD) : sProp 𝕄 := iprop((bigSep Finset.univ fun k : CI => atPos ER (kcell (c, k)) 0 ∅ 0) ∗ payToks c)

/-- What its body starts from, and the credits of its waits. -/
def start (c : Dev nD) : sProp 𝕄 :=
  iprop((∃ K, records m K ∗ linear c) ∗ cred (tallyAt (barC c) () 2) ∗ sepL sends fun h => cred (tallyAt (rcvC c h) () N))

/-- The three arrays of the kernel's own, holding anything. -/
def scr (c : Dev nD) : sProp 𝕄 :=
  iprop((∃ f : Buf (Elt F) ((c : Thread nD τ).loc cc0_scratch0), ((c : Thread nD τ).loc cc0_scratch0) ↦{fullShare} f) ∗ sArr c ∗ vArr c)

/-- Every cell of the device at zero. -/
def zeros (c : Dev nD) : sProp 𝕄 := bigSep Finset.univ fun k : CI => semVal (kcell (c, k)) 0

def Φ₀ (c : Dev nD) : sProp 𝕄 := iprop(start m c ∗ scr c)
def Φ₁ (c : Dev nD) : sProp 𝕄 := iprop(scr (F := F) c ∗ zeros c)

/-- The launch's proof data: what the windows hold after the body, and what is passed from before it to after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (c : Dev nD)

/-- From the start's resources to what the body takes, the unused slots and their positions set aside. -/
def spare : sProp 𝕄 :=
  iprop(sepL unused (slotAny (F := F) sM c) ∗ sepL unused (slotAny (F := F) vM c)
    ∗ sepL unused (fun h => atPos ER (kcell (c, some (false, h))) 0 ∅ 0) ∗ sepL unused (fun h => atPos ER (kcell (c, some (true, h))) 0 ∅ 0))

theorem enter :
    iprop(linear (F := F) c ∗ cred (tallyAt (barC c) () 2) ∗ (sepL sends fun h => cred (tallyAt (rcvC c h) () N)) ∗ scr (F := F) c
        ∗ owesX c (O₀ c) ∗ xPts m c ∗ wPts m c ∗ (∃ f, oPts c f))
      ⊢ iprop(bodyIn m c ∗ spare (F := F) c) := by
  unfold linear payToks scr bodyIn spare
  rw [cells_split, all_split, all_split, all_split (fun h : Slot => dutyTok ER (sndC c h) 0 false), all_split (fun h : Slot => dutyTok ER (rcvC (dstD h.2 c) h) 0 false)]
  iintro ⟨⟨⟨HaB, ⟨HaS, HaS'⟩, ⟨HaV, HaV'⟩⟩, Ht1, Ht2, ⟨HtS, -⟩, ⟨HtV, -⟩⟩, HcB, HcV, ⟨Hp, Hs, Hv⟩, HO, Hx, Hw, Ho⟩
  ihave Hs' := (split_sArr (F := F) c) $$ Hs
  icases Hs' with ⟨Hs, Hsu⟩
  ihave Hv' := (split_vArr (F := F) c) $$ Hv
  icases Hv' with ⟨Hv, Hvu⟩
  isplitl [HaB HaS HaV Ht1 Ht2 HtS HtV HcB HcV Hp Hs Hv HO Hx Hw Ho]
  · isplitl [Hx]; · iexact Hx
    isplitl [Hw]; · iexact Hw
    isplitl [Ho]; · iexact Ho
    isplitl [Hp]; · iexact Hp
    isplitl [HO]; · iexact HO
    isplitl [HcB]; · iexact HcB
    isplitl [HaB]; · iexact HaB
    isplitl [Ht1]; · iexact Ht1
    isplitl [Ht2]; · iexact Ht2
    isplitl [Hs]; · iexact Hs
    isplitl [Hv]; · iexact Hv
    isplitl [HtS HtV]
    · iapply (sepL_sep sends (fun h => (dutyTok ER (sndC c h) 0 false : sProp 𝕄)) (fun h => dutyTok ER (rcvC (dstD h.2 c) h) 0 false)).2
      isplitl [HtS]; · iexact HtS
      iexact HtV
    isplitl [HcV HaV]
    · iapply (sepL_sep sends (fun h => (cred (tallyAt (rcvC c h) () N) : sProp 𝕄)) (fun h => atPos ER (rcvC c h) 0 ∅ 0)).2
      isplitl [HcV]; · iexact HcV
      iexact HaV
    iexact HaS
  isplitl [Hsu]; · iexact Hsu
  isplitl [Hvu]; · iexact Hvu
  isplitl [HaS']; · iexact HaS'
  iexact HaV'

theorem nonempty_buf (ℓ : Loc nD τ sig) : Nonempty (Buf (Elt F) ℓ) := ⟨fun _ => Classical.choice inferInstance⟩

/-- From what the body leaves, and what was set aside, to the end: all cells closed, the arrays whole. -/
theorem leave (K : Dev nD × CI → ℕ) :
    iprop(records m K ∗ bodyOut m c ∗ spare (F := F) c)
      ⊢ (|={Set.univ}=> iprop(Φ₁ (F := F) c ∗ owesX c 0 ∗ xPts m c ∗ wPts m c ∗ oPts c (outAt m c)) : sProp 𝕄) := by
  unfold bodyOut spare
  iintro ⟨#HR, ⟨Hx, Hw, Ho, Hp, HO, HaB, Hr, Hd⟩, Hsu, Hvu, HaS', HaV'⟩
  ihave Hr' := (sepL_sep sends (fun h => (atPos ER (rcvC c h) 1 ∅ 0 : sProp 𝕄)) (slotAny (F := F) vM c)).1 $$ [Hr]
  · unfold rcvdR; iexact Hr
  icases Hr' with ⟨HaV, Hv⟩
  ihave Hd' := (sepL_sep sends (fun h => (atPos ER (sndC c h) 1 ∅ 0 : sProp 𝕄)) (slotAny (F := F) sM c)).1 $$ [Hd]
  · unfold doneR; iexact Hd
  icases Hd' with ⟨HaS, Hs⟩
  imod (close_cell m K (c, none) 1 (duties_later m _)) $$ [HaB] with HzB
  · isplitr; · iexact HR
    iexact HaB
  imod (close_list c m K false 1 sends (fun h _ => duties_later m _)) $$ [HaS] with HzS
  · isplitr; · iexact HR
    iexact HaS
  imod (close_list c m K true 1 sends (fun h _ => duties_later m _)) $$ [HaV] with HzV
  · isplitr; · iexact HR
    iexact HaV
  imod (close_list c m K false 0 unused (unused_duties c m false)) $$ [HaS'] with HzS'
  · isplitr; · iexact HR
    iexact HaS'
  imod (close_list c m K true 0 unused (unused_duties c m true)) $$ [HaV'] with HzV'
  · isplitr; · iexact HR
    iexact HaV'
  imodintro
  isplitl [Hp Hs Hsu Hv Hvu HzB HzS HzV HzS' HzV']
  · unfold Φ₁ scr zeros
    rw [cells_split, all_split, all_split]
    isplitl [Hp Hs Hsu Hv Hvu]
    · isplitl [Hp]
      · unfold partPts; iexists (partAt m c); iexact Hp
      isplitl [Hs Hsu]
      · iapply (join_sArr (F := F) c (nonempty_buf _))
        isplitl [Hs]; · iexact Hs
        iexact Hsu
      iapply (join_vArr (F := F) c (nonempty_buf _))
      isplitl [Hv]; · iexact Hv
      iexact Hvu
    isplitl [HzB]; · iexact HzB
    isplitl [HzS HzS']
    · isplitl [HzS]; · iexact HzS
      iexact HzS'
    isplitl [HzV]; · iexact HzV
    iexact HzV'
  isplitl [HO]; · iexact HO
  isplitl [Hx]; · iexact Hx
  isplitl [Hw]; · iexact Hw
  iexact Ho

abbrev t₀ : Fin cfg0.N := t0_0

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost : sProp 𝕄 :=
  iprop(Φ₁ c ∗ (dats m ρ 0 c).owesAt () t₀.succ ∗ stg c cc0_stg0_0 (xAt m c) ∗ stg c cc0_stg1_0 (wAt m c) ∗ stg c cc0_stg2_0 (outAt m c))

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

/-- The body from the library's precondition to its postcondition. -/
theorem sound_body : bodyPre m ρ c ⊢ wp frame (wpE (defs₀ (F := F)) 𝒱₀ (c : Thread nD τ) none) Set.univ (flat (F := F)) (fun _ => bodyPost m ρ c) := by
  unfold bodyPre Φ₀ start
  iintro ⟨⟨⟨⟨%K, #HR, Hl⟩, HcB, HcV⟩, Hscr⟩, Ho, ⟨%d0, %g0, %hg0, Hx⟩, ⟨%d1, %g1, %hg1, Hw⟩, ⟨%d2, %g2, %hg2, Hout⟩⟩
  have hx : g0 = xAt m c := by rw [hg0]; unfold Dat.before; rw [if_pos (fetch_0 t₀)]; rfl
  subst hx
  have hw : g1 = wAt m c := by rw [hg1]; unfold Dat.before; rw [if_pos (fetch_1 t₀)]; rfl
  subst hw
  unfold Dat.owesAt Pipeline.owesWithin
  icases Ho with ⟨%W, %hW, HO⟩
  rw [show (dats m ρ 0 c).owed t₀.castSucc = O₀ c from rfl]
  ihave Hin := (enter m c) $$ [Hl HcB HcV Hscr HO Hx Hw Hout]
  · isplitl [Hl]; · iexact Hl
    isplitl [HcB]; · iexact HcB
    isplitl [HcV]; · iexact HcV
    isplitl [Hscr]; · iexact Hscr
    isplitl [HO]; · unfold owesX; iexists W; iexact HO
    isplitl [Hx]; · unfold xPts; iexact Hx
    isplitl [Hw]; · unfold wPts; iexact Hw
    unfold oPts; iexists g2; iexact Hout
  icases Hin with ⟨Hin, Hsp⟩
  iapply (wp_flat m K c (fun _ => bodyPost m ρ c)) $$ [Hin]
  · isplitr; · iexact HR
    iexact Hin
  iintro Hout
  imod (leave m c K) $$ [Hout Hsp] with ⟨HΦ, HO, Hx, Hw, Ho⟩
  · isplitr; · iexact HR
    isplitl [Hout]; · iexact Hout
    iexact Hsp
  imodintro
  unfold bodyPost Dat.owesAt Pipeline.owesWithin
  rw [show (dats m ρ 0 c).owed t₀.succ = 0 from rfl]
  isplitl [HΦ]; · iexact HΦ
  isplitl [HO]
  · unfold owesX
    icases HO with ⟨%W', HO⟩
    iexists W'
    isplitr; · ipureintro; exact fun _ _ => Or.inl trivial
    iexact HO
  unfold xPts wPts oPts
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 65536 in
/-- The library's obligation for the body. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  rw [body_eq_flat]
  exact sound_body m ρ c

end Body

end Cert.RingProof

end
-- ==== Proof.Run.lean ====
/-
The ghost state minted at the launch and dealt around the ring, the credits of what everybody owes, the run of the kernel.
-/
module

public import proofs.«01_k».proof.Proof.Launch
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation launchCred cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The kernel's own semaphores. -/
abbrev osem (k : Bool × Slot) : SemLoc sig := csem (some k)

theorem csem_injective : Function.Injective csem := by
  rintro (_ | ⟨a, h⟩) (_ | ⟨b, k⟩) e
  · rfl
  · cases b <;> cases e
  · cases a <;> cases e
  · have num (x : Bool) (i : Slot) : csem (some (x, i)) = .dma (if x then recvQ i.1 i.2 else sendQ i.1 i.2) := by cases x <;> rfl
    rw [num, num] at e
    have e1 := congrArg Fin.val (SemLoc.dma.inj e)
    have val (x : Bool) (i : Slot) : (if x then recvQ i.1 i.2 else sendQ i.1 i.2 : DmaSem sig).val = (if x then 35 else 3) + (4 * i.1.val + i.2.val) := by
      cases x
      · exact sendQ_val _ _
      · exact recvQ_val _ _
    rw [val, val] at e1
    have h1 := h.1.isLt; have h2 := h.2.isLt; have k1 := k.1.isLt; have k2 := k.2.isLt
    have hab : a = b := by cases a <;> cases b <;> first | rfl | (simp at e1; omega)
    subst hab
    have hhk : h = k := by rw [← slotOf_num h, ← slotOf_num k]; congr 1; omega
    rw [hhk]

theorem ownSemFacts : Pipeline.OwnSemFacts cfg0.spec osem :=
  ⟨by decide +kernel, fun a b e => Option.some.inj (csem_injective e), by decide +kernel⟩

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- Two tokens are minted for every cell; those of no duty are dropped. -/
abbrev tokOf (x : Dev nD × CI × Bool) : GSem nD τ sig × ℕ × Bool := (kcell (x.1, x.2.1), 0, x.2.2)
theorem tokOf_injective : Function.Injective tokOf := by
  rintro ⟨c, k, b⟩ ⟨c', k', b'⟩ h
  have h1 := kcell_injective (congrArg Prod.fst h)
  have h2 : b = b' := congrArg (fun y : GSem nD τ sig × ℕ × Bool => y.2.2) h
  cases h1; rw [h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of the duties of device `c`'s own cells. -/
def toks (c : Dev nD) : sProp 𝕄 :=
  iprop(dutyTok ER (barC c) 0 false ∗ dutyTok ER (barC c) 0 true
    ∗ (bigSep Finset.univ fun h : Slot => dutyTok ER (sndC c h) 0 false) ∗ bigSep Finset.univ fun h : Slot => dutyTok ER (rcvC c h) 0 false)

omit [FloatOps F] in
theorem bigSep_two (Φ : Bool → sProp 𝕄) : bigSep Finset.univ Φ = iprop(Φ false ∗ Φ true) := by
  rw [bigSep_univ_eq_bigSepL [false, true] (by decide) (by decide), bigSepL_cons_cons, bigSepL_singleton]
  rfl

omit [FloatOps F] in
theorem toks_of_minted (c : Dev nD) :
    (bigSep Finset.univ fun kb : CI × Bool => (dutyTok ER (kcell (c, kb.1)) 0 kb.2 : sProp 𝕄)) ⊢ toks c := by
  rw [bigSep_univ_prod, cells_split]
  unfold toks
  have e (b : Bool) : (bigSep Finset.univ fun h : Slot => bigSep Finset.univ fun d : Bool => (dutyTok ER (kcell (c, some (b, h))) 0 d : sProp 𝕄))
      ⊢ bigSep Finset.univ fun h : Slot => dutyTok ER (kcell (c, some (b, h))) 0 false :=
    bigSep_mono fun h _ => bigSep_elim (Φ := fun d : Bool => (dutyTok ER (kcell (c, some (b, h))) 0 d : sProp 𝕄)) (Finset.mem_univ false)
  iintro ⟨HB, HS, HV⟩
  have hb : (bigSep Finset.univ fun d : Bool => (dutyTok ER (kcell (c, none)) 0 d : sProp 𝕄)) ⊢ iprop(dutyTok ER (barC c) 0 false ∗ dutyTok ER (barC c) 0 true) :=
    Entails.of_eq (bigSep_two fun d => (dutyTok ER (barC c) 0 d : sProp 𝕄))
  ihave HB' := hb $$ HB
  icases HB' with ⟨H1, H2⟩
  isplitl [H1]; · iexact H1
  isplitl [H2]; · iexact H2
  isplitl [HS]; · iapply (e false); iexact HS
  iapply (e true); iexact HV

/-- What the launch deals device `c`. -/
def G (c : Dev nD) : sProp 𝕄 :=
  iprop((bigSep Finset.univ fun k : CI => roundState ER (ringRd m) (kcell (c, k)) 0)
    ∗ (bigSep Finset.univ fun k : CI => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of_minted c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

omit [FloatOps F] in
theorem unscopedSems0_eq (c : Dev nD) : (unscopedSems0 c : sProp 𝕄) = semVal (barC c) 0 := by
  unfold unscopedSems0; rw [bigSep_eq_bigSepL_of_eq [SemLoc.reg barrier0] (by decide) (by decide)]; rfl

omit [FloatOps F] in
/-- The own semaphores and the runtime's are all the cells. -/
theorem zeros_eq (c : Dev nD) :
    iprop(Pipeline.ownSems0 (Ix := Unit) (Name := ℕ) (U := UU) (Lvl := ℕ) (Val := Elt F) (τ := τ) osem c ∗ unscopedSems0 c) ⊢ zeros (F := F) c := by
  unfold zeros Pipeline.ownSems0
  rw [cells_split, unscopedSems0_eq, bigSep_univ_prod, bigSep_two]
  iintro ⟨⟨HS, HV⟩, HB⟩
  isplitl [HB]; · iexact HB
  isplitl [HS]; · iexact HS
  iexact HV
omit [FloatOps F] in
theorem zeros_exit (c : Dev nD) :
    zeros (F := F) c ⊢ iprop(unscopedSems0 c ∗ Pipeline.ownSems0 (Ix := Unit) (Name := ℕ) (U := UU) (Lvl := ℕ) (Val := Elt F) (τ := τ) osem c) := by
  unfold zeros Pipeline.ownSems0
  rw [cells_split, unscopedSems0_eq, bigSep_univ_prod (fun k : Bool × Slot => (semVal (((c : Dev nD) : Thread nD τ), osem k) 0 : sProp 𝕄)), bigSep_two]
  iintro ⟨HB, HS, HV⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (ringRd m) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (zeros_eq (F := F) c) $$ [Hos Hus]
  · isplitl [Hos] <;> iassumption
  imod (show iprop(zeros (F := F) c ∗ bigSep Finset.univ fun k : CI => roundState ER (ringRd m) (kcell (c, k)) 0)
      ⊢ (|={Set.univ}=> bigSep Finset.univ fun k : CI => iprop(∃ κ : ℕ, cellInv ER (ringRd m) κ (kcell (c, k))) : sProp 𝕄) from by
        unfold zeros
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records but for the levels, which the launch hands out later. -/
def recs (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)
instance recs_persistent (K : Dev nD × CI → ℕ) : BI.Persistent (recs m K) := by unfold recs; infer_instance

/-- What the global step makes of all that. -/
def G' (c : Dev nD) : sProp 𝕄 := iprop(∃ K, recs m K ∗ linear c)

omit [FloatOps F] in
/-- The order of two conjunctions over finite types does not matter. -/
theorem bigSep_exch {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1),
    bigSep_univ_equiv (Equiv.prodComm B A) (fun x : A × B => Φ x.1 x.2)]
  rfl

omit [FloatOps F] in
/-- The arrivals' tokens go to the devices that send. -/
theorem recv_around :
    (bigSep Finset.univ fun c : Dev nD => bigSep Finset.univ fun h : Slot => (dutyTok ER (rcvC c h) 0 false : sProp 𝕄))
      = bigSep Finset.univ fun c : Dev nD => bigSep Finset.univ fun h : Slot => dutyTok ER (rcvC (dstD h.2 c) h) 0 false := by
  rw [bigSep_exch, bigSep_exch (fun (c : Dev nD) (h : Slot) => (dutyTok ER (rcvC (dstD h.2 c) h) 0 false : sProp 𝕄))]
  exact bigSep_congr fun h _ => bigSep_univ_equiv (along h.2) fun c : Dev nD => (dutyTok ER (rcvC c h) 0 false : sProp 𝕄)

omit [FloatOps F] in
/-- All tokens go to the devices that pay: each barrier's to the two neighbours, the arrivals' to the senders. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_around,
    bigSep_univ_equiv ring (fun c : Dev nD => (dutyTok ER (barC c) 0 false : sProp 𝕄)),
    bigSep_univ_equiv ring.symm (fun c : Dev nD => (dutyTok ER (barC c) 0 true : sProp 𝕄))]
  iintro ⟨H1, H2, H3, H4⟩
  isplitl [H2]; · iexact H2
  isplitl [H1]; · iexact H1
  isplitl [H3]; · iexact H3
  iexact H4

theorem ghost_intro (K : Dev nD × CI → ℕ) (c : Dev nD) : iprop(recs m K ∗ linear c) ⊢ G' m c := by
  unfold G'
  iintro H
  iexists K
  iexact H

theorem regroup :
    (bigSep Finset.univ fun c : Dev nD => iprop((bigSep Finset.univ fun k : CI => iprop(∃ κ : ℕ, cellInv ER (ringRd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (ringRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_around (F := F)) $$ Htok
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- All devices' semaphores become the shared records and each device's part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : barC a = barC b ↔ a = b :=
  ⟨fun h => congrArg (fun g : GSem nD τ sig => g.1.1) h, fun h => h ▸ rfl⟩

theorem oweL_bar (d c : Dev nD) (l : List Slot) : oweL d l (barC c) () = 0 := by
  by_contra h
  obtain ⟨k, _, e⟩ := oweL_pos (Nat.pos_of_ne_zero h)
  exact nomatch (show (SemLoc.reg barrier0 : SemLoc sig) = .dma (recvQ k.1 k.2) from congrArg Prod.snd e)

theorem owed_bar (d c : Dev nD) : O₀ d (barC c) () = (if d = lft c then 1 else 0) + (if d = rgt c then 1 else 0) := by
  unfold O₀
  rw [Pi.add_apply, Finsupp.add_apply, Pi.add_apply, Finsupp.add_apply, oweL_bar, tallyAt_apply, tallyAt_apply, Nat.zero_add]
  congr 1
  · by_cases h : d = lft c
    · subst h; rw [rgt_lft, if_pos ⟨rfl, rfl⟩, if_pos rfl]
    · rw [if_neg (fun ⟨h1, _⟩ => h (by rw [← lft_rgt d]; exact congrArg lft (bar_eq_iff.mp h1).symm)), if_neg h]
  · by_cases h : d = rgt c
    · subst h; rw [lft_rgt, if_pos ⟨rfl, rfl⟩, if_pos rfl]
    · rw [if_neg (fun ⟨h1, _⟩ => h (by rw [← rgt_lft d]; exact congrArg rgt (bar_eq_iff.mp h1).symm)), if_neg h]

theorem rcv_ne_bar (a b : Dev nD) (h : Slot) : rcvC a h ≠ barC b :=
  fun e => nomatch (show (SemLoc.dma (recvQ h.1 h.2) : SemLoc sig) = .reg barrier0 from congrArg Prod.snd e)

theorem owed_rcv (d c : Dev nD) (h : Slot) (hh : h ∈ sends) : O₀ d (rcvC c h) () = if d = srcD h.2 c then N else 0 := by
  have hm : h ∈ starts ++ hops.map tgtS := by
    have := List.mem_toFinset.mpr hh
    rw [sends_sent] at this
    exact List.mem_toFinset.mp this
  unfold O₀
  rw [Pi.add_apply, Finsupp.add_apply, Pi.add_apply, Finsupp.add_apply, oweL_rcv d c h _ (show (starts ++ hops.map tgtS).Nodup from sentL_nodup), tallyAt_ne_cell (rcv_ne_bar _ _ _),
    tallyAt_ne_cell (rcv_ne_bar _ _ _), Finsupp.zero_apply, Nat.add_zero, Nat.add_zero]
  simp only [hm, true_and]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem launch_rcv (c : Dev nD) (h : Slot) (hh : h ∈ sends) :
    tallyOn (rcvC c h) (launchCredit (Pipeline.owing O₀) 0 (rcvC c h)) = (tallyAt (rcvC c h) () N : CellTallies nD τ sig Unit) := by
  unfold tallyAt; refine congrArg _ (Finsupp.ext fun u => ?_); cases u
  rw [Pipeline.launchCredit_owing, Finsupp.single_eq_same, Finset.sum_congr rfl fun d _ => owed_rcv d c h hh, Finset.sum_ite_eq' Finset.univ (srcD h.2 c) fun _ => N,
    if_pos (Finset.mem_univ _)]

/-- The receive semaphores of the used slots. -/
def rcvSems : Finset (SemLoc sig) := (sends.map fun h => SemLoc.dma (recvQ h.1 h.2)).toFinset

theorem rcvSems_nodup : (sends.map fun h : Slot => SemLoc.dma (sig := sig) (recvQ h.1 h.2)).Nodup := by
  refine sends_nodup.map fun h k e => ?_
  exact (rcvC_inj (a := (0 : Dev nD)) (b := (0 : Dev nD)) (congrArg (fun s => (((0 : Dev nD) : Thread nD τ), s)) e)).2

theorem creds (c : Dev nD) :
    (Pipeline.launchCred O₀ c : sProp 𝕄) ⊢ iprop(cred (tallyAt (barC c) () 2) ∗ sepL sends fun h => cred (tallyAt (rcvC c h) () N)) := by
  unfold Pipeline.launchCred
  rw [bigSep_univ_at _ (SemLoc.reg barrier0), launch_bar]
  refine sep_mono_right ?_
  have hs : rcvSems ⊆ Finset.univ.erase (SemLoc.reg barrier0) := fun s hs => by
    unfold rcvSems at hs
    obtain ⟨h, _, rfl⟩ := List.mem_map.mp (List.mem_toFinset.mp hs)
    exact Finset.mem_erase.mpr ⟨fun e => (nomatch (show (SemLoc.dma (recvQ h.1 h.2) : SemLoc sig) = .reg barrier0 from e)), Finset.mem_univ _⟩
  refine (bigSep_subset hs).trans ?_
  unfold rcvSems
  rw [← sepL_eq_bigSep _ rcvSems_nodup, sepL_map]
  exact sepL_mono _ _ _ fun h hh => Entails.of_eq (congrArg cred (launch_rcv c h hh))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' recs records
  iintro ⟨-, Hlev, Hcr, -, ⟨%K, ⟨HI, HR⟩, Hl⟩⟩
  ihave Hc := (creds (F := F) c) $$ Hcr
  imodintro
  isplitl
  · isplitl [HI HR Hl Hlev]
    · iexists K
      isplitr [Hl]
      · isplitl [HI]; · iexact HI
        isplitl [HR]; · iexact HR
        iexact Hlev
      iexact Hl
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr sArr vArr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr sArr vArr
  iintro ⟨Hr, Hz⟩
  ihave Hz' := (zeros_exit (F := F) c) $$ Hz
  icases Hz' with ⟨H1, H2⟩
  isplitl [H1]; · iexact H1
  isplitl [H2]; · iexact H2
  iexact Hr

theorem owed_pos {c : Dev nD} {g : GSem nD τ sig} {u : Unit} (h : 0 < O₀ c g u) : g.1.2 = .tc ∧ 0 < lvS g.2 := by
  unfold O₀ at h
  rw [Pi.add_apply, Finsupp.add_apply, Pi.add_apply, Finsupp.add_apply, tallyAt_apply, tallyAt_apply] at h
  by_cases h1 : g = barC (lft c) ∧ u = ()
  · rw [h1.1]; exact ⟨rfl, Nat.one_pos⟩
  by_cases h2 : g = barC (rgt c) ∧ u = ()
  · rw [h2.1]; exact ⟨rfl, Nat.one_pos⟩
  rw [if_neg h1, if_neg h2] at h
  obtain ⟨k, _, e⟩ := oweL_pos (show 0 < oweL c (starts ++ hops.map tgtS) g u from h)
  rw [e]
  exact ⟨rfl, by rw [lvS_rcv]; omega⟩

omit [FloatOps F] in
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · exact mayWait_of_lt c (.dma q) _ fun g u hg => ⟨(owed_pos hg).1, by
      rw [show lvS (SemLoc.dma q : SemLoc sig) = 0 from if_pos hq]; exact (owed_pos hg).2⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every execution ends, with each device's arrays at the computed contents and all
    counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and `w` hold after the run what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Block.lean ====
/-
Over the extended reals: every block that a device computes is a block of the product of its columns of `x` and its rows of `w`.
-/
module

public import proofs.«01_k».proof.Proof.Run
public import Idealize.ShloMosaic.Lib.MatmulPlain
public import Idealize.ShloMosaic.Lib.ValueIdx
public import Idealize.ShloMosaic.Lib.Pipeline.Value

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.Sem
open scoped BigOperators

section Any

variable {F : FTy → Type} [FloatOps F]
variable (m : (ℓ : Loc nD τ sig) → Buf (Elt F) ℓ)

/-- What the body sees of `x` is the device's argument array. -/
theorem xAt_eq (c : Dev nD) : xAt m c = m ((c : Thread nD τ).loc main_arg0) := by
  have hz' : (fun a => win0_0.index (0 : Fin 1) a * main_arg0.ty.shape.size a) = fun _ => 0 := funext fun a => by fin_cases a <;> decide
  exact Memref.read_access_unit_zero (Elt F) main_arg0 hz' (fun a => by rw [congrFun hz' a]; simp) (m ((c : Thread nD τ).loc main_arg0))

/-- What the body sees of `w` is the device's argument array. -/
theorem wAt_eq (c : Dev nD) : wAt m c = m ((c : Thread nD τ).loc main_arg1) := by
  have hz' : (fun a => win0_1.index (0 : Fin 1) a * main_arg1.ty.shape.size a) = fun _ => 0 := funext fun a => by fin_cases a <;> decide
  exact Memref.read_access_unit_zero (Elt F) main_arg1 hz' (fun a => by rw [congrFun hz' a]; simp) (m ((c : Thread nD τ).loc main_arg1))

/-- A slot's contents as a matrix. -/
def mat (v : Vec F S1x1x1x128x1024 .bf16) : FVec F S128x1024 .bf16 := shapeCast S128x1024 v shapeCasts_S1x1x1x128x1024_S128x1024

/-- As matrices, forwarding adds the device's own block. -/
theorem mat_addStep (v : Vec F S1x1x1x128x1024 .bf16) (ch : Vec F S128x1024 .bf16) : mat (addStep v ch) = addf (mat v) ch := by
  unfold mat addStep; rw [shapeCast_shapeCast]

/-- As a matrix, the left half is the left half. -/
theorem mat_leftHalf (p : FVec F S128x2048 .bf16) (r : Fin 128) (l : Fin 1024) (j : Fin 2048) (hj : j.val = l.val) :
    mat (leftHalf p) (ix2 r l) = p (ix2 r j) := by
  unfold mat leftHalf k0_pay4; dsimp only; rw [shapeCast_shapeCast]
  refine extractStridedSlice_apply _ _ _ _ _ fun a => ?_
  match a with
  | ⟨0, _⟩ => exact (Nat.zero_add _).symm
  | ⟨1, _⟩ => exact hj.trans (Nat.zero_add _).symm

/-- As a matrix, the right half is the right half. -/
theorem mat_rightHalf (p : FVec F S128x2048 .bf16) (r : Fin 128) (l : Fin 1024) (j : Fin 2048) (hj : j.val = 1024 + l.val) :
    mat (rightHalf p) (ix2 r l) = p (ix2 r j) := by
  unfold mat rightHalf k0_pay7; dsimp only; rw [shapeCast_shapeCast]
  refine extractStridedSlice_apply _ _ _ _ _ fun a => ?_
  match a with
  | ⟨0, _⟩ => exact (Nat.zero_add _).symm
  | ⟨1, _⟩ => exact hj

/-- Rows of `x` from `off`, element by element. -/
theorem rowsAt_apply (c : Dev nD) (off : Fin 2 → Nat) (h : ∀ a, off a + S128x128.size a ≤ S2048x128.size a) (r k : Fin 128) (i : Fin 2048)
    (hi : i.val = off 0 + r.val) (h1 : off 1 = 0) : rowsAt m c off h (ix2 r k) = xAt m c (ix2 i k) := by
  show xAt m c _ = xAt m c _
  refine congrArg (xAt m c) (funext fun a => Fin.ext ?_)
  match a with
  | ⟨0, _⟩ => show off 0 + 1 * r.val = i.val; omega
  | ⟨1, _⟩ => show off 1 + 1 * k.val = k.val; omega

/-- A block of the device's own product, element by element. -/
theorem chunkAt_apply (c : Dev nD) (off : Fin 2 → Nat) (h : ∀ a, off a + S128x1024.size a ≤ S2048x2048.size a) (r : Fin 128) (l : Fin 1024)
    (i j : Fin 2048) (hi : i.val = off 0 + r.val) (hj : j.val = off 1 + l.val) : chunkAt m c off h (ix2 r l) = partAt m c (ix2 i j) := by
  show partAt m c _ = partAt m c _
  refine congrArg (partAt m c) (funext fun a => Fin.ext ?_)
  match a with
  | ⟨0, _⟩ => show off 0 + 1 * r.val = i.val; omega
  | ⟨1, _⟩ => show off 1 + 1 * l.val = j.val; omega

end Any

variable (m : (ℓ : Loc nD τ sig) → Buf (Elt Ideal) ℓ)

/-- Device `e`'s columns of `x`, as numbers; -/
def xI (e : Dev nD) : FVec Ideal S2048x128 .bf16 := xAt m e
/-- its rows of `w`. -/
def wI (e : Dev nD) : FVec Ideal S128x2048 .bf16 := wAt m e

/-- Element `(i, j)` of the product of device `e`'s columns of `x` and its rows of `w`. -/
def share (e : Dev nD) (i j : Fin 2048) : EReal := ∑ k : Fin 128, xI m e (ix2 i k) * wI m e (ix2 k j)

/-- The device's own product holds exactly that. -/
theorem partAt_apply (e : Dev nD) (i j : Fin 2048) : partAt m e (ix2 i j) = share m e i j := by
  unfold partAt k0_pay9 share
  rw [shapeCast_self, shapeCast_self, shapeCast_self]
  show FloatOps.matmul (F := Ideal) (φ₁ := .bf16) (φ₂ := .bf16) (DotDims.plain 2048 128 2048) none (xI m e) (wI m e) (constant S2048x2048 .f32 0x00000000#32) (ix2 i j) = _
  rw [Ideal.matmul_plain_apply]
  show Ideal.ofBits .f32 0x00000000#32 + _ = _
  rw [Ideal.ofBits_zero_f32, zero_add]

/-- A product of some rows holds exactly that. -/
theorem rowProd_apply (e : Dev nD) (off : Fin 2 → Nat) (h : ∀ a, off a + S128x128.size a ≤ S2048x128.size a) (r : Fin 128) (i j : Fin 2048)
    (hi : i.val = off 0 + r.val) (h1 : off 1 = 0) : rowProd (rowsAt m e off h) (wAt m e) (ix2 r j) = share m e i j := by
  unfold rowProd k0_pay1 share
  rw [shapeCast_self, shapeCast_self]
  show FloatOps.matmul (F := Ideal) (φ₁ := .bf16) (φ₂ := .bf16) (DotDims.plain 128 128 2048) none (rowsAt m e off h) (wI m e) (constant S128x2048 .f32 0x00000000#32) (ix2 r j) = _
  rw [Ideal.matmul_plain_apply]
  show Ideal.ofBits .f32 0x00000000#32 + _ = _
  rw [Ideal.ofBits_zero_f32, zero_add]
  exact Finset.sum_congr rfl fun k _ => congrArg (· * wI m e (ix2 k j)) (rowsAt_apply m e off h r k i hi h1)

end Cert.RingProof

end
-- ==== Proof.Stream.lean ====
/-
What has been added up when a block of a stream is sent, and that the two streams that end at a device, and the device's own
product, add up all sixteen devices' products.
-/
module

public import proofs.«01_k».proof.Proof.Block

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.Sem
open scoped BigOperators

/-- How many hops stream `t` has; -/
def hopsOf (t : Fin 4) : ℕ := if t.val = 0 ∨ t.val = 2 then 8 else 7
/-- the first of its columns; -/
def colOf (t : Fin 4) : ℕ := if t.val = 0 ∨ t.val = 3 then 0 else 1024
/-- how far around the ring the block it starts with belongs. -/
def farOf (t : Fin 4) : Fin 3 := if t.val = 1 then 0 else if t.val = 3 then 2 else 1

/-- The rows that the device `hopsOf t` hops before `d` multiplies first are those of device `d`. -/
theorem first_off (d : Dev nD) (t : Fin 4) : k0_off1 ((srcD t)^[hopsOf t] d) (BitVec.ofNat 32 (7 + (farOf t).val)) 0 = 128 * d.val
    ∧ k0_off1 ((srcD t)^[hopsOf t] d) (BitVec.ofNat 32 (7 + (farOf t).val)) 1 = 0 := by
  revert d t; decide +kernel

/-- The block that a device on the way to `d` adds is `d`'s. -/
theorem hop_off (d : Dev nD) (t : Fin 4) (p : Fin 7) (hp : p.val + 1 < hopsOf t) :
    hopOff ((srcD t)^[hopsOf t - (p.val + 1)] d) p t 0 = 128 * d.val ∧ hopOff ((srcD t)^[hopsOf t - (p.val + 1)] d) p t 1 = colOf t := by
  revert d t p; decide +kernel

/-- The device's own block, read last, is its own. -/
theorem last_off (d : Dev nD) : k0_off4 d 0 = 128 * d.val ∧ k0_off4 d 1 = 0 ∧ k0_off5 d 0 = 128 * d.val ∧ k0_off5 d 1 = 1024 := by
  revert d; decide +kernel

/-- The devices in the order in which a block that ends at `d` meets them: eight behind on one side, seven on the other, itself. -/
def roundL (d : Dev nD) : List (Dev nD) :=
  ((List.range 8).map fun q => lft^[1 + q] d) ++ ((List.range 7).map fun q => rgt^[1 + q] d) ++ [d]
/-- The same with the two sides' numbers exchanged. -/
def roundR (d : Dev nD) : List (Dev nD) :=
  ((List.range 7).map fun q => lft^[1 + q] d) ++ ((List.range 8).map fun q => rgt^[1 + q] d) ++ [d]

theorem roundL_all (d : Dev nD) : (roundL d).Nodup ∧ (roundL d).toFinset = Finset.univ := by revert d; decide +kernel
theorem roundR_all (d : Dev nD) : (roundR d).Nodup ∧ (roundR d).toFinset = Finset.univ := by revert d; decide +kernel

/-- Both orders meet every device once. -/
theorem sum_roundL (f : Dev nD → EReal) (d : Dev nD) :
    (∑ q ∈ Finset.range 8, f (lft^[1 + q] d)) + (∑ q ∈ Finset.range 7, f (rgt^[1 + q] d)) + f d = ∑ e, f e := by
  rw [← (roundL_all d).2, List.sum_toFinset f (roundL_all d).1]
  unfold roundL
  rw [List.map_append, List.map_append, List.sum_append, List.sum_append, List.map_map, List.map_map, List.map_singleton, List.sum_singleton]
  rfl
theorem sum_roundR (f : Dev nD → EReal) (d : Dev nD) :
    (∑ q ∈ Finset.range 7, f (lft^[1 + q] d)) + (∑ q ∈ Finset.range 8, f (rgt^[1 + q] d)) + f d = ∑ e, f e := by
  rw [← (roundR_all d).2, List.sum_toFinset f (roundR_all d).1]
  unfold roundR
  rw [List.map_append, List.map_append, List.sum_append, List.sum_append, List.map_map, List.map_map, List.map_singleton, List.sum_singleton]
  rfl

variable (m : (ℓ : Loc nD τ sig) → Buf (Elt Ideal) ℓ)

/-- The left half of a product of some rows holds these elements; -/
theorem left_apply (e : Dev nD) (off : Fin 2 → Nat) (h : ∀ a, off a + S128x128.size a ≤ S2048x128.size a) (r : Fin 128) (l : Fin 1024) (i j : Fin 2048)
    (hi : i.val = off 0 + r.val) (h1 : off 1 = 0) (hj : j.val = l.val) :
    mat (leftHalf (rowProd (rowsAt m e off h) (wAt m e))) (ix2 r l) = share m e i j :=
  (mat_leftHalf _ r l j hj).trans (rowProd_apply m e off h r i j hi h1)
/-- the right half these. -/
theorem right_apply (e : Dev nD) (off : Fin 2 → Nat) (h : ∀ a, off a + S128x128.size a ≤ S2048x128.size a) (r : Fin 128) (l : Fin 1024) (i j : Fin 2048)
    (hi : i.val = off 0 + r.val) (h1 : off 1 = 0) (hj : j.val = 1024 + l.val) :
    mat (rightHalf (rowProd (rowsAt m e off h) (wAt m e))) (ix2 r l) = share m e i j :=
  (mat_rightHalf _ r l j hj).trans (rowProd_apply m e off h r i j hi h1)

/-- What a device sends first on a stream is a block of its own product. -/
theorem initV_at (e : Dev nD) (t : Fin 4) (r : Fin 128) (l : Fin 1024) (i j : Fin 2048)
    (hi : i.val = k0_off1 e (BitVec.ofNat 32 (7 + (farOf t).val)) 0 + r.val) (h1 : k0_off1 e (BitVec.ofNat 32 (7 + (farOf t).val)) 1 = 0)
    (hj : j.val = colOf t + l.val) : mat (initV m t e) (ix2 r l) = share m e i j := by
  unfold initV
  by_cases h0 : t.val = 0
  · obtain rfl : t = 0 := Fin.ext h0
    rw [show BitVec.ofNat 32 (7 + (farOf 0).val) = 8#32 from by decide] at hi h1
    rw [show colOf 0 = 0 from by decide, Nat.zero_add] at hj
    rw [if_pos h0]
    exact left_apply m e _ _ r l i j hi h1 hj
  by_cases ht1 : t.val = 1
  · obtain rfl : t = 1 := Fin.ext ht1
    rw [show BitVec.ofNat 32 (7 + (farOf 1).val) = 7#32 from by decide] at hi h1
    rw [show colOf 1 = 1024 from by decide] at hj
    rw [if_neg h0, if_pos ht1]
    exact right_apply m e _ _ r l i j hi h1 hj
  by_cases ht2 : t.val = 2
  · obtain rfl : t = 2 := Fin.ext ht2
    rw [show BitVec.ofNat 32 (7 + (farOf 2).val) = 8#32 from by decide] at hi h1
    rw [show colOf 2 = 1024 from by decide] at hj
    rw [if_neg h0, if_neg ht1, if_pos ht2]
    exact right_apply m e _ _ r l i j hi h1 hj
  · obtain rfl : t = 3 := Fin.ext (by have := t.isLt; show t.val = 3; omega)
    rw [show BitVec.ofNat 32 (7 + (farOf 3).val) = 9#32 from by decide] at hi h1
    rw [show colOf 3 = 0 from by decide, Nat.zero_add] at hj
    rw [if_neg h0, if_neg ht1, if_neg ht2]
    exact left_apply m e _ _ r l i j hi h1 hj

section

variable (d : Dev nD) (t : Fin 4) (r : Fin 128) (l : Fin 1024) (i j : Fin 2048) (hi : i.val = 128 * d.val + r.val) (hj : j.val = colOf t + l.val)
include hi hj

/-- The first block sent towards `d` on a stream is a block of the sender's product. -/
theorem initV_apply : mat (initV m t ((srcD t)^[hopsOf t] d)) (ix2 r l) = share m ((srcD t)^[hopsOf t] d) i j :=
  initV_at m _ t r l i j (by rw [(first_off d t).1]; exact hi) (first_off d t).2 hj

/-- What is sent towards `d` at step `p` is the sum of the products of the `p + 1` devices passed so far. -/
theorem sndN_apply (p : ℕ) (hp : p < hopsOf t) :
    mat (sndN m t p ((srcD t)^[hopsOf t - p] d)) (ix2 r l) = ∑ q ∈ Finset.range (p + 1), share m ((srcD t)^[hopsOf t - p + q] d) i j := by
  induction p with
  | zero =>
    rw [Finset.sum_range_one]
    exact initV_apply m d t r l i j hi hj
  | succ p ih =>
    have h8 : hopsOf t ≤ 8 := by unfold hopsOf; split <;> omega
    have hq : hopsOf t - p = hopsOf t - (p + 1) + 1 := by omega
    have hm : (Fin.ofNat 7 p).val = p := Nat.mod_eq_of_lt (by omega)
    have ho := hop_off d t (Fin.ofNat 7 p) (by rw [hm]; exact hp)
    rw [hm] at ho
    rw [Finset.sum_range_succ']
    show mat (addStep (sndN m t p (srcD t ((srcD t)^[hopsOf t - (p + 1)] d))) _) (ix2 r l) = _
    rw [mat_addStep, addf_apply, ← Function.iterate_succ_apply' (srcD t), Nat.succ_eq_add_one, ← hq, ih (by omega),
      chunkAt_apply m _ _ _ r l i j (by rw [hi, ho.1]) (by rw [hj, ho.2]), partAt_apply]
    congr 1
    refine Finset.sum_congr rfl fun q _ => ?_
    rw [hq, Nat.add_right_comm, Nat.add_assoc]

/-- What arrives at `d` on the last step is the sum of the products of the devices passed. -/
theorem rcv_apply (s : Fin 8) (hs : s.val + 1 = hopsOf t) :
    mat (rcvV m (s, t) d) (ix2 r l) = ∑ q ∈ Finset.range (hopsOf t), share m ((srcD t)^[1 + q] d) i j := by
  have h := sndN_apply m d t r l i j hi hj s.val (by omega)
  rw [show hopsOf t - s.val = 1 by omega, hs] at h
  exact h

end

end Cert.RingProof

end
-- ==== Proof.Result.lean ====
/-
What the run leaves: the result array at the computed contents, the argument arrays as they were, every counter at zero.
-/
module

public import proofs.«01_k».proof.Proof.Run
public import proofs.«01_k».proof.Proof.Gen.KernelIdeal.Points
public import Idealize.ShloMosaic.Lib.Pipeline.Value

@[expose] public section

noncomputable section

namespace Cert.RingProof

open Cert.KernelIdeal Cert.KernelIdeal.Gen
open Idealize.ShloMosaic Idealize.ShloMosaic.Pipeline
open Idealize.ShloMosaic.TcCoe
open Idealize.SL Idealize.SL.Sem

variable {F : FTy → Type} [FloatOps F]
variable (m : (ℓ : Loc nD τ sig) → Buf (Elt F) ℓ) (ρ : Dev nD → PrngReg)

/-- A device's result, as contents of its result array. -/
def outA (c : Dev nD) : Buf (Elt F) ((c : Thread nD τ).loc main_v1) := outAt m c

/-- The one block of the result starts at the array's first element. -/
theorem out_start (a : Fin 2) : win0_2.index t0_0 a * main_v1.ty.shape.size a = 0 := by fin_cases a <;> decide

/-- What is written back is the device's result. -/
theorem written_back (c : Dev nD) (t : Fin cfg0.N) (hf : (cfg0.win 2).flush t = true) :
    (dats m ρ 0 c).flushed 2 t = ((cfg0.win 2).blk t).view.read (Elt F) (outA m c) := by
  obtain rfl : t = t0_0 := fin_N0 t
  have hz : (fun a => win0_2.index t0_0 a * main_v1.ty.shape.size a) = fun _ => 0 := funext out_start
  exact (Memref.read_access_unit_zero (Elt F) main_v1 hz (fun a => by rw [congrFun hz a]; simp) (outA m c)).symm

/-- The result array ends holding the device's result. -/
theorem finalA_o (c : Dev nD) : finalA m ρ c (2 : Fin 3) = outA m c :=
  (dats m ρ 0 c).arrAt_eq_of_cover 2 (outA m c) (written_back m ρ c) fun i => ⟨t0_0, flush0_2 t0_0, by
    show i ∈ ((View.whole main_v1).slice (win0_2.rect t0_0)).set
    rw [View.set_slice_whole, Rect.mem_set_unit]
    intro a
    have e : win0_2.index t0_0 a * win0_2.size a = 0 ∧ win0_2.xsize (grid0.coords t0_0) a = main_v1.ty.shape.size a := by
      fin_cases a <;> decide +kernel
    show win0_2.index t0_0 a * win0_2.size a ≤ (i a : Nat) ∧ (i a : Nat) < win0_2.index t0_0 a * win0_2.size a + win0_2.xsize (grid0.coords t0_0) a
    rw [e.1, e.2, Nat.zero_add]
    exact ⟨Nat.zero_le _, (i a).isLt⟩⟩

/-- From any memory with zero counters every execution ends with each device's result array holding its result, its
    arguments unchanged and every counter at zero. -/
theorem run_result : θ_run defs (onTc (τ := τ) (main (F := F))) ⟨m, fun _ => 0, ρ⟩ (fun r =>
    (∀ c : Dev nD, r.2.mem ((c : Thread nD τ).loc main_v1) = outA m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (finalA_o m ρ c), (h.1 c (0 : Fin 3)).trans (finalA_x m ρ c),
    (h.1 c (1 : Fin 3)).trans (finalA_w m ρ c)⟩, h.2⟩) (run_main m ρ)

end Cert.RingProof

end
-- ==== Proof.Value.lean ====
/-
Over the extended reals, a device's result is its rows of the activation of the product of `x` and `w`.
-/
module

public import proofs.«01_k».proof.Proof.Stream
public import proofs.«01_k».proof.Proof.Result

@[expose] public section

noncomputable section

namespace Cert.RingProof

open Cert.KernelIdeal Cert.KernelIdeal.Gen
open Idealize.ShloMosaic Idealize.ShloMosaic.ValueIdx
open Idealize.ShloMosaic.TcCoe
open Idealize.SL Idealize.SL.Sem
open scoped BigOperators

/-- The activation as the kernel multiplies it out, on one number. -/
def act (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

/-- The epilogue adds the two arrived blocks and the device's own, and applies the activation, element by element. -/
theorem epilogue_apply (a b : Vec Ideal S1x1x1x128x1024 .bf16) (ch : Vec Ideal S128x1024 .bf16) (q : S128x1024.Idx) (u v w : EReal)
    (ha : mat a q = u) (hb : mat b q = v) (hc : ch q = w) : k0_pay50 (F := Ideal) a b ch q = act (u + v + w) := by
  subst ha hb hc; rfl

variable (m : (ℓ : Loc nD τ sig) → Buf (Elt Ideal) ℓ)

/-- Element `(r, j)` of device `d`'s result is the activation of the sum of all devices' products at row `128 d + r`. -/
theorem outAt_apply (d : Dev nD) (r : Fin 128) (i j : Fin 2048) (hi : i.val = 128 * d.val + r.val) :
    outAt m d (ix2 r j) = act (∑ e, share m e i j) := by
  have ho := last_off d
  by_cases h : j.val < 1024
  · have e : outAt m d (ix2 r j) = outL m d (ix2 r ⟨j.val, h⟩) :=
      (dif_pos h).trans (congrArg (outL m d) (eq_ix2 _))
    rw [e, ← sum_roundL (fun e => share m e i j) d]
    exact epilogue_apply _ _ _ _ _ _ _
      (rcv_apply m d 0 r ⟨j.val, h⟩ i j hi (Nat.zero_add _).symm 7 rfl)
      (rcv_apply m d 3 r ⟨j.val, h⟩ i j hi (Nat.zero_add _).symm 6 rfl)
      ((chunkAt_apply m d _ _ r ⟨j.val, h⟩ i j (by rw [ho.1]; exact hi) (by rw [ho.2.1]; exact (Nat.zero_add _).symm)).trans (partAt_apply m d i j))
  · have hl : j.val - 1024 < 1024 := by have := j.isLt; omega
    have hj : j.val = 1024 + (j.val - 1024) := by omega
    have e : outAt m d (ix2 r j) = outR m d (ix2 r ⟨j.val - 1024, hl⟩) :=
      (dif_neg h).trans (congrArg (outR m d) (eq_ix2 _))
    rw [e, ← sum_roundR (fun e => share m e i j) d]
    exact epilogue_apply _ _ _ _ _ _ _
      (rcv_apply m d 1 r ⟨j.val - 1024, hl⟩ i j hi hj 6 rfl)
      (rcv_apply m d 2 r ⟨j.val - 1024, hl⟩ i j hi hj 7 rfl)
      ((chunkAt_apply m d _ _ r ⟨j.val - 1024, hl⟩ i j (by rw [ho.2.2.1]; exact hi) (by rw [ho.2.2.2]; exact hj)).trans (partAt_apply m d i j))

end Cert.RingProof

end
-- ==== Proof.Plain.lean ====
/-
The reference over the extended reals, element by element.
-/
module

public import proofs.«01_k».proof.Proof.Gen.ReferenceIdeal.Run
public import Idealize.ShloMosaic.Lib.StackMember
public import Idealize.ShloMosaic.Lib.IdealHost
public import Idealize.ShloMosaic.Lib.ValueIdx
public import Idealize.ShloMosaic.PureOps.Ideal

@[expose] public section

noncomputable section

namespace Cert.RingProof

open Cert.ReferenceIdeal Cert.ReferenceIdeal.Gen
open Idealize.ShloMosaic Idealize.ShloMosaic.ValueIdx
open Idealize.SL Idealize.SL.Sem
open scoped BigOperators

/-- A two-dimensional array of 2048 × 2048 numbers. -/
abbrev Sq := FVec Ideal S2048x2048 .bf16

/-- Element `(i, j)` of the product of the whole arrays. -/
def prodAt (X W : Sq) (i j : Fin 2048) : EReal := ∑ k : Fin 2048, X (ix2 i k) * W (ix2 k j)

/-- The activation as the reference writes it, on one number. -/
def actPlain (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- The reference's product as an array. -/
def dotR (X W : Sq) : FVec Ideal S2048x2048 .f32 :=
  Host.dotGeneral dot_S2048x2048_S2048x2048_S2048x2048_1_0_0_1_n_n none (extf .f32 X bitsLt_bf16_f32) (extf .f32 W bitsLt_bf16_f32)

theorem dotR_apply (X W : Sq) (i j : Fin 2048) : dotR X W (ix2 i j) = prodAt X W i j :=
  StackMember.dotGeneral_plain_apply none (extf .f32 X bitsLt_bf16_f32) (extf .f32 W bitsLt_bf16_f32) i j

/-- The reference's activation, applied to an array. -/
def actR (y : FVec Ideal S2048x2048 .f32) : FVec Ideal S2048x2048 .f32 :=
  mulf (mulf (broadcastInDim S2048x2048 ![] bcast_S_S2048x2048 (constant S_ .f32 0x3F000000#32)) y)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf y (mulf (broadcastInDim S2048x2048 ![] bcast_S_S2048x2048 (constant S_ .f32 0x3D372713#32)) (mulf (mulf y y) y))))))

theorem actR_apply (y : FVec Ideal S2048x2048 .f32) (q : S2048x2048.Idx) : actR y q = actPlain (y q) := rfl

/-- The reference's result. -/
def refA (X W : Sq) : FVec Ideal S2048x2048 .f32 := actR (dotR X W)

/-- Element `(i, j)` of the reference's result is the activation of that element of the product. -/
theorem refA_apply (X W : Sq) (i j : Fin 2048) : refA X W (ix2 i j) = actPlain (prodAt X W i j) :=
  (actR_apply _ _).trans (congrArg actPlain (dotR_apply X W i j))

variable (m : (ℓ : Loc nD τ sig) → Buf (Elt Ideal) ℓ) (ρ : Dev nD → PrngReg)

/-- The reference's run: its result array ends at that result, its arguments unchanged. -/
theorem run_plain : θ_run (defs (F := Ideal)) (onTc (τ := τ) (main (F := Ideal))) ⟨m, fun _ => 0, ρ⟩ (fun r => ∀ c : Dev nD,
    r.2.mem ((c.tc : Thread nD τ).loc main_v15) = refA (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Cert.ReferenceIdeal.Value.run (F := Ideal) m ρ

end Cert.RingProof

end
-- ==== Proof.Equation.lean ====
/-
The kernel's result is the reference's: the sixteen devices' products add up to the whole product, and the two ways of writing
the activation agree over the extended reals.
-/
module

public import proofs.«01_k».proof.Proof.Value
public import proofs.«01_k».proof.Proof.Plain
public import Idealize.ShloMosaic.Lib.Layout

@[expose] public section

noncomputable section

namespace Cert.RingProof

open Idealize.ShloMosaic Idealize.ShloMosaic.ValueIdx
open Idealize.ShloMosaic.TcCoe
open Idealize.SL Idealize.SL.Sem
open scoped BigOperators

/-- Both ways of multiplying out the activation agree: the product of extended reals is associative. -/
theorem act_eq (y : EReal) : act y = actPlain y := by
  unfold act actPlain
  rw [mul_assoc (Ideal.ofBits .f32 0x3D372713#32 * y) y y, mul_assoc (Ideal.ofBits .f32 0x3D372713#32) y (y * y), ← mul_assoc y y y]

/-- Where place `k` of device `e`'s block of 128 is among all 2048. -/
def colAt (e : Fin 16) (k : Fin 128) : Fin 2048 := ⟨128 * e.val + k.val, by have := e.isLt; have := k.isLt; omega⟩

/-- A sum over all columns is a sum over the devices of sums over their columns. -/
theorem sum_columns (f : Fin 2048 → EReal) : ∑ K, f K = ∑ e : Fin 16, ∑ k : Fin 128, f (colAt e k) := by
  rw [← Fintype.sum_prod_type' (fun (e : Fin 16) (k : Fin 128) => f (colAt e k))]
  refine (Fintype.sum_equiv (finProdFinEquiv (m := 16) (n := 128)) _ _ fun p => congrArg f (Fin.ext ?_)).symm
  show 128 * p.1.val + p.2.val = p.2.val + 128 * p.1.val
  exact Nat.add_comm _ _

/-- Block `e` of an array cut along its columns, element by element; -/
theorem block_cols {α : Type} (v : (⟨2, ![2048, 2048]⟩ : Shape).Idx → α) (e : Fin 16) (i : Fin 2048) (k : Fin 128) :
    Layout.block ⟨2, ![2048, 128]⟩ ⟨2, ![2048, 2048]⟩ 1 16 e v (by decide) (ix2 i k) = v (ix2 i (colAt e k)) := by
  rw [Layout.block_apply]
  refine congrArg v (funext fun a => Fin.ext ?_)
  match a with
  | ⟨0, _⟩ => exact (Layout.idx_cols_val _ _ _).1
  | ⟨1, _⟩ => exact (Layout.idx_cols_val _ _ _).2.trans (congrArg (· + k.val) (Nat.mul_comm e.val 128))
/-- of an array cut along its rows. -/
theorem block_rows {α : Type} (v : (⟨2, ![2048, 2048]⟩ : Shape).Idx → α) (e : Fin 16) (k : Fin 128) (j : Fin 2048) :
    Layout.block ⟨2, ![128, 2048]⟩ ⟨2, ![2048, 2048]⟩ 0 16 e v (by decide) (ix2 k j) = v (ix2 (colAt e k) j) := by
  rw [Layout.block_apply]
  refine congrArg v (funext fun a => Fin.ext ?_)
  match a with
  | ⟨0, _⟩ => exact (Layout.idx_rows_val _ _ _).1.trans (congrArg (· + k.val) (Nat.mul_comm e.val 128))
  | ⟨1, _⟩ => exact (Layout.idx_rows_val _ _ _).2

variable (m : (ℓ : Loc Cert.KernelIdeal.nD Cert.KernelIdeal.τ Cert.KernelIdeal.sig) → Buf (Elt Ideal) ℓ) (X W : Sq)

/-- The devices hold their columns of `X` and their rows of `W`. -/
def Holds : Prop := ∀ c : Dev Cert.KernelIdeal.nD,
  m ((c.tc : Thread Cert.KernelIdeal.nD Cert.KernelIdeal.τ).loc Cert.KernelIdeal.main_arg0) = Layout.block ⟨2, ![2048, 128]⟩ ⟨2, ![2048, 2048]⟩ 1 16 c X
  ∧ m ((c.tc : Thread Cert.KernelIdeal.nD Cert.KernelIdeal.τ).loc Cert.KernelIdeal.main_arg1) = Layout.block ⟨2, ![128, 2048]⟩ ⟨2, ![2048, 2048]⟩ 0 16 c W

variable {m X W}

/-- Column `k` of device `e`'s part of `X`. -/
theorem xI_apply (h : Holds m X W) (e : Fin 16) (i : Fin 2048) (k : Fin 128) : xI m e (ix2 i k) = X (ix2 i (colAt e k)) :=
  (congrFun ((xAt_eq m e).trans (h e).1) (ix2 i k)).trans (block_cols X e i k)

/-- Row `k` of device `e`'s part of `W`. -/
theorem wI_apply (h : Holds m X W) (e : Fin 16) (k : Fin 128) (j : Fin 2048) : wI m e (ix2 k j) = W (ix2 (colAt e k) j) :=
  (congrFun ((wAt_eq m e).trans (h e).2) (ix2 k j)).trans (block_rows W e k j)

/-- The devices' products add up to the whole product. -/
theorem sum_share (h : Holds m X W) (i j : Fin 2048) : ∑ e, share m e i j = prodAt X W i j := by
  unfold prodAt
  rw [sum_columns]
  refine Finset.sum_congr rfl fun e _ => ?_
  unfold share
  exact Finset.sum_congr rfl fun k _ => by rw [xI_apply h, wI_apply h]

/-- Element `(r, j)` of device `c`'s result is the reference's, `128 c` rows further down. -/
theorem outAt_ref (h : Holds m X W) (c : Dev Cert.KernelIdeal.nD) (r : Fin 128) (i j : Fin 2048) (hi : i.val = 128 * c.val + r.val) :
    outAt m c (ix2 r j) = refA X W (ix2 i j) := by
  rw [outAt_apply m c r i j hi, sum_share h, act_eq, refA_apply]

/-- Each device's result is its rows of the reference's result. -/
theorem outA_eq (h : Holds m X W) (c : Dev Cert.KernelIdeal.nD) :
    outA m c = Layout.block ⟨2, ![128, 2048]⟩ ⟨2, ![2048, 2048]⟩ 0 16 c (refA X W) := by
  funext q
  have e : q = ix2 (n0 := 128) (n1 := 2048) (q 0) (q 1) := eq_ix2 q
  rw [e]
  exact (outAt_ref h c (q 0) (colAt c (q 0)) (q 1) rfl).trans (block_rows (refA X W) c (q 0) (q 1)).symm

end Cert.RingProof

end
-- ==== Proof.Same.lean ====
/-
The kernel and its idealization are the same program: no operation was rewritten.
-/
module

public import proofs.«01_k».proof.Proof.Result
public import proofs.«01_k».proof.Proof.Gen.Kernel

@[expose] public section

noncomputable section

namespace Cert.RingProof

open Idealize.ShloMosaic Idealize.SL.Sem

variable {F : FTy → Type} [FloatOps F]

set_option maxRecDepth 65536 in
/-- The two bodies are one program. -/
theorem body_same : Cert.Kernel.cc0_body (F := F) = Cert.KernelIdeal.cc0_body := rfl

/-- The two tables of bodies are one table. -/
theorem table_same : Cert.Kernel.defs₀ (F := F) = Cert.KernelIdeal.defs₀ := by
  funext x y a
  cases x with
  | tc =>
    match y, a with
    | 0, (t, s) =>
      show Cert.Kernel.cc0_body (F := F) _ _ _ _ _ _ _ _ _ _ _ _ _ _ = _
      rw [body_same]
      rfl
    | ⟨_ + 1, h⟩, _ => exact absurd h (Nat.not_lt.2 (Nat.le_add_left _ _))
  | scScalar _ => rfl
  | scVector _ _ => rfl

theorem defs_same : Cert.Kernel.defs (F := F) = Cert.KernelIdeal.defs :=
  congrArg (Pipeline.defs Cert.KernelIdeal.pcfgs) table_same

end Cert.RingProof

end
-- ==== Proof.lean ====
/-
The claims about the ring kernel: it and its idealization run, leave their arguments alone and every counter at zero; so does the
reference; and over the extended reals each device ends with its rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.SL.Sem Cert.RingProof

/-- The kernel, over the words of its float formats. -/
theorem frame_kernel : Cert.quiescent_Kernel := fun m ρ _ => by
  have h := (θ_run Cert.KernelIdeal.defs _ _).mono (fun _ h => And.intro (fun c => (h.1 c).2) h.2) (run_result (F := Bits) m ρ)
  rw [← defs_same] at h
  exact h

/-- The kernel, over the extended reals. -/
theorem frame_ideal : Cert.quiescent_KernelIdeal := fun m ρ _ =>
  (θ_run Cert.KernelIdeal.defs _ _).mono (fun _ h => ⟨fun c => (h.1 c).2, h.2⟩) (run_result (F := Ideal) m ρ)

/-- The reference; it has no counters. -/
theorem frame_reference : Cert.quiescent_ReferenceIdeal := fun m ρ _ =>
  (θ_run Cert.ReferenceIdeal.defs _ _).mono (fun r h => ⟨fun c => (h c).2, sem_eq_zero_of_no_sems (by decide) r.2⟩) (run_plain m ρ)

/-- The idealization rewrote nothing. -/
theorem preserves : Cert.preserves_Kernel_KernelIdeal := trivial

/-- Over the extended reals each device's result is its rows of the reference's result. -/
theorem algebraic : Cert.algebraic_KernelIdeal_ReferenceIdeal := fun m ρ m' ρ' _ hin =>
  ⟨refA (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (outA_eq hin c), (h.1 c).2⟩) (run_result (F := Ideal) m ρ),
    (θ_run Cert.ReferenceIdeal.defs _ _).mono (fun _ h => h 0) (run_plain m' ρ')⟩

theorem claim : Cert.Claim :=
  ⟨Cert.Kernel.Gen.facts, Cert.KernelIdeal.Gen.facts, Cert.ReferenceIdeal.Gen.facts, frame_kernel, frame_ideal, frame_reference, preserves, algebraic⟩

end Cert.Proof

end
